-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S1x1024 : Shape := ⟨2, ![1, 1024]⟩
abbrev S2048 : Shape := ⟨1, ![2048]⟩
abbrev S2048x4096 : Shape := ⟨2, ![2048, 4096]⟩
abbrev S4096 : Shape := ⟨1, ![4096]⟩
abbrev S1x1024x4096 : Shape := ⟨3, ![1, 1024, 4096]⟩
abbrev S1024x4096 : Shape := ⟨2, ![1024, 4096]⟩
abbrev S1024x2048 : Shape := ⟨2, ![1024, 2048]⟩
abbrev S1024x1 : Shape := ⟨2, ![1024, 1]⟩
abbrev S1x2048 : Shape := ⟨2, ![1, 2048]⟩
abbrev S1x4096 : Shape := ⟨2, ![1, 4096]⟩
abbrev S256x4096 : Shape := ⟨2, ![256, 4096]⟩
abbrev S256x2048 : Shape := ⟨2, ![256, 2048]⟩
abbrev S256x1 : Shape := ⟨2, ![256, 1]⟩
abbrev S256 : Shape := ⟨1, ![256]⟩
abbrev S1024x512 : Shape := ⟨2, ![1024, 512]⟩
abbrev S2048x512 : Shape := ⟨2, ![2048, 512]⟩

abbrev nBuf : Space → Nat
  | .hbm => 25
  | .vmem => 26
  | .smem => 0
  | _ => 0

abbrev bufTy : (tb : Table) → Fin (tcTables nBuf tb) → BufTy
  | .hbm, ⟨0, _⟩ => ⟨S1x1024x2048, .fp8e4m3⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048, .f32⟩
  | .hbm, ⟨5, _⟩ => ⟨S2048, .f32⟩
  | .hbm, ⟨6, _⟩ => ⟨S2048x4096, .fp8e4m3⟩
  | .hbm, ⟨7, _⟩ => ⟨S4096, .f32⟩
  | .hbm, ⟨8, _⟩ => ⟨S1x1024x4096, .bf16⟩
  | .hbm, ⟨9, _⟩ => ⟨S1024x4096, .bf16⟩
  | .hbm, ⟨10, _⟩ => ⟨S1024x2048, .fp8e4m3⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1x2048, .f32⟩
  | .hbm, ⟨15, _⟩ => ⟨S1x2048, .f32⟩
  | .hbm, ⟨16, _⟩ => ⟨S1x4096, .f32⟩
  | .hbm, ⟨17, _⟩ => ⟨S1024x2048, .bf16⟩
  | .hbm, ⟨18, _⟩ => ⟨S1024x2048, .bf16⟩
  | .hbm, ⟨19, _⟩ => ⟨S1x2048, .f32⟩
  | .hbm, ⟨20, _⟩ => ⟨S1x2048, .f32⟩
  | .hbm, ⟨21, _⟩ => ⟨S2048x4096, .f32⟩
  | .hbm, ⟨22, _⟩ => ⟨S1x1024x2048, .bf16⟩
  | .hbm, ⟨23, _⟩ => ⟨S2048, .f32⟩
  | .hbm, ⟨24, _⟩ => ⟨S2048, .f32⟩
  | .local _ .vmem, ⟨0, _⟩ => ⟨S256x4096, .bf16⟩
  | .local _ .vmem, ⟨1, _⟩ => ⟨S256x4096, .bf16⟩
  | .local _ .vmem, ⟨2, _⟩ => ⟨S256x2048, .fp8e4m3⟩
  | .local _ .vmem, ⟨3, _⟩ => ⟨S256x2048, .fp8e4m3⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S1x2048, .f32⟩
  | .local _ .vmem, ⟨11, _⟩ => ⟨S1x2048, .f32⟩
  | .local _ .vmem, ⟨12, _⟩ => ⟨S2048x4096, .fp8e4m3⟩
  | .local _ .vmem, ⟨13, _⟩ => ⟨S1x4096, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | .local _ .vmem, ⟨19, _⟩ => ⟨S1x2048, .f32⟩
  | .local _ .vmem, ⟨20, _⟩ => ⟨S2048x4096, .bf16⟩
  | .local _ .vmem, ⟨21, _⟩ => ⟨S1024x2048, .bf16⟩
  | .local _ .vmem, ⟨22, _⟩ => ⟨S1024x512, .bf16⟩
  | .local _ .vmem, ⟨23, _⟩ => ⟨S1024x512, .bf16⟩
  | .local _ .vmem, ⟨24, _⟩ => ⟨S2048x512, .f32⟩
  | .local _ .vmem, ⟨25, _⟩ => ⟨S2048x512, .f32⟩
  | _, _ => ⟨S1x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc1_stg0_0 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc1_sem0_0 : DmaSem sig := 20
abbrev cc1_sem1_0 : DmaSem sig := 21
abbrev cc1_sem1_1 : DmaSem sig := 22
abbrev cc1_sem2_0 : DmaSem sig := 23
abbrev cc1_sem2_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1x1024x2048 : Shape := ⟨3, ![1, 1024, 2048]⟩
abbrev S1x1024 : Shape := ⟨2, ![1, 1024]⟩
abbrev S2048 : Shape := ⟨1, ![2048]⟩
abbrev S2048x4096 : Shape := ⟨2, ![2048, 4096]⟩
abbrev S4096 : Shape := ⟨1, ![4096]⟩
abbrev S1x1024x4096 : Shape := ⟨3, ![1, 1024, 4096]⟩
abbrev S1x1024x1 : Shape := ⟨3, ![1, 1024, 1]⟩
abbrev S1x1x2048 : Shape := ⟨3, ![1, 1, 2048]⟩
abbrev S1x4096 : Shape := ⟨2, ![1, 4096]⟩
abbrev S_ : Shape := ⟨0, ![]⟩

abbrev nBuf : Space → Nat
  | .hbm => 63
  | .vmem => 4
  | .smem => 0
  | _ => 0

abbrev bufTy : (tb : Table) → Fin (tcTables nBuf tb) → BufTy
  | .hbm, ⟨0, _⟩ => ⟨S1x1024x2048, .fp8e4m3⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048, .f32⟩
  | .hbm, ⟨5, _⟩ => ⟨S2048, .f32⟩
  | .hbm, ⟨6, _⟩ => ⟨S2048x4096, .fp8e4m3⟩
  | .hbm, ⟨7, _⟩ => ⟨S4096, .f32⟩
  | .hbm, ⟨8, _⟩ => ⟨S1x1024x4096, .bf16⟩
  | .hbm, ⟨9, _⟩ => ⟨S1x1024x2048, .f32⟩
  | .hbm, ⟨10, _⟩ => ⟨S2048x4096, .bf16⟩
  | .hbm, ⟨11, _⟩ => ⟨S1x1024x1, .f32⟩
  | .hbm, ⟨12, _⟩ => ⟨S1x1024x2048, .f32⟩
  | .hbm, ⟨13, _⟩ => ⟨S1x1024x2048, .f32⟩
  | .hbm, ⟨14, _⟩ => ⟨S1x1024x1, .f32⟩
  | .hbm, ⟨15, _⟩ => ⟨S1x1024x2048, .f32⟩
  | .hbm, ⟨16, _⟩ => ⟨S1x1024x2048, .f32⟩
  | .hbm, ⟨17, _⟩ => ⟨S1x1024x1, .f32⟩
  | .hbm, ⟨18, _⟩ => ⟨S1x1024x2048, .f32⟩
  | .hbm, ⟨19, _⟩ => ⟨S1x1024x2048, .f32⟩
  | .hbm, ⟨20, _⟩ => ⟨S1x1x2048, .f32⟩
  | .hbm, ⟨21, _⟩ => ⟨S1x1024x2048, .f32⟩
  | .hbm, ⟨22, _⟩ => ⟨S1x1024x2048, .f32⟩
  | .hbm, ⟨23, _⟩ => ⟨S1x1x2048, .f32⟩
  | .hbm, ⟨24, _⟩ => ⟨S1x1024x2048, .f32⟩
  | .hbm, ⟨25, _⟩ => ⟨S1x1024x2048, .f32⟩
  | .hbm, ⟨26, _⟩ => ⟨S1x1024x2048, .bf16⟩
  | .hbm, ⟨27, _⟩ => ⟨S2048x4096, .f32⟩
  | .hbm, ⟨28, _⟩ => ⟨S4096, .bf16⟩
  | .hbm, ⟨29, _⟩ => ⟨S1x4096, .bf16⟩
  | .hbm, ⟨30, _⟩ => ⟨S2048x4096, .bf16⟩
  | .hbm, ⟨31, _⟩ => ⟨S2048x4096, .bf16⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S1x1x2048, .f32⟩
  | .hbm, ⟨39, _⟩ => ⟨S1x1024x2048, .f32⟩
  | .hbm, ⟨40, _⟩ => ⟨S1x1024x2048, .f32⟩
  | .hbm, ⟨41, _⟩ => ⟨S1x1024x1, .f32⟩
  | .hbm, ⟨42, _⟩ => ⟨S_, .f32⟩
  | .hbm, ⟨43, _⟩ => ⟨S1x1024, .f32⟩
  | .hbm, ⟨44, _⟩ => ⟨S1x1024x1, .f32⟩
  | .hbm, ⟨45, _⟩ => ⟨S_, .f32⟩
  | .hbm, ⟨46, _⟩ => ⟨S1x1024x1, .f32⟩
  | .hbm, ⟨47, _⟩ => ⟨S1x1024x1, .f32⟩
  | .hbm, ⟨48, _⟩ => ⟨S1x1024x2048, .f32⟩
  | .hbm, ⟨49, _⟩ => ⟨S1x1024x2048, .f32⟩
  | .hbm, ⟨50, _⟩ => ⟨S1x1024x2048, .f32⟩
  | .hbm, ⟨51, _⟩ => ⟨S_, .f32⟩
  | .hbm, ⟨52, _⟩ => ⟨S1x1024, .f32⟩
  | .hbm, ⟨53, _⟩ => ⟨S1x1024x1, .f32⟩
  | .hbm, ⟨54, _⟩ => ⟨S_, .f32⟩
  | .hbm, ⟨55, _⟩ => ⟨S1x1024x1, .f32⟩
  | .hbm, ⟨56, _⟩ => ⟨S1x1024x1, .f32⟩
  | .hbm, ⟨57, _⟩ => ⟨S1x1024x2048, .f32⟩
  | .hbm, ⟨58, _⟩ => ⟨S1x1024x2048, .f32⟩
  | .hbm, ⟨59, _⟩ => ⟨S1x1024x2048, .f32⟩
  | .hbm, ⟨60, _⟩ => ⟨S1x1024x2048, .f32⟩
  | .hbm, ⟨61, _⟩ => ⟨S1x1024x2048, .f32⟩
  | .hbm, ⟨62, _⟩ => ⟨S1x1024x2048, .bf16⟩
  | .local _ .vmem, ⟨0, _⟩ => ⟨S1x1024x2048, .fp8e4m3⟩
  | .local _ .vmem, ⟨1, _⟩ => ⟨S2048x4096, .fp8e4m3⟩
  | .local _ .vmem, ⟨2, _⟩ => ⟨S1x1024x2048, .f32⟩
  | .local _ .vmem, ⟨3, _⟩ => ⟨S2048x4096, .bf16⟩
  | _, _ => ⟨S1x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Ideal.DxBody.lean ====
/-
What one run of the first kernel's body leaves in its buffers, as terms of what they held: the first point and a later one.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body fills the weight scratch: the first grid coordinate is zero. -/
abbrev isFirst (i : grid0.Coords) : Prop := (Scalar.cmpi .ne (Scalar.extui (Scalar.cmpi .eq (BitVec.ofNat 32 (i 0).val) 0#32)) 0#32) = 1#1

/-- The condition holds at the grid's first point alone. -/
theorem isFirst_iff : ∀ t : Fin cfg0.N, isFirst (grid0.coords t) ↔ t.val = 0 :=
  (by decide +kernel : ∀ t : Fin grid0.N, isFirst (grid0.coords t) ↔ t.val = 0)

/-- The eight row blocks that the first point stores into the weight scratch, the newest first: each is the block of
    the codes widened and scaled column by column. -/
def pieces (x7 : Vec F S2048x4096 .fp8e4m3) (x8 : Vec F S1x4096 .f32) : List (View.Piece (Elt F) S2048x4096 .bf16) :=
  [⟨Rect.unit ![1792, 0] S256x4096.size inb_S2048x4096_S256x4096_1792_0, k0_pay13 (k0_pay4 x8) (View.ld x7 (Rect.unit ![1792, 0] S256x4096.size inb_S2048x4096_S256x4096_1792_0))⟩,
    ⟨Rect.unit ![1536, 0] S256x4096.size inb_S2048x4096_S256x4096_1536_0, k0_pay12 (k0_pay4 x8) (View.ld x7 (Rect.unit ![1536, 0] S256x4096.size inb_S2048x4096_S256x4096_1536_0))⟩,
    ⟨Rect.unit ![1280, 0] S256x4096.size inb_S2048x4096_S256x4096_1280_0, k0_pay11 (k0_pay4 x8) (View.ld x7 (Rect.unit ![1280, 0] S256x4096.size inb_S2048x4096_S256x4096_1280_0))⟩,
    ⟨Rect.unit ![1024, 0] S256x4096.size inb_S2048x4096_S256x4096_1024_0, k0_pay10 (k0_pay9 x8 (View.ld x7 (Rect.unit ![1024, 0] S256x4096.size inb_S2048x4096_S256x4096_1024_0)))⟩,
    ⟨Rect.unit ![768, 0] S256x4096.size inb_S2048x4096_S256x4096_768_0, k0_pay8 x8 (View.ld x7 (Rect.unit ![768, 0] S256x4096.size inb_S2048x4096_S256x4096_768_0))⟩,
    ⟨Rect.unit ![512, 0] S256x4096.size inb_S2048x4096_S256x4096_512_0, k0_pay7 x8 (View.ld x7 (Rect.unit ![512, 0] S256x4096.size inb_S2048x4096_S256x4096_512_0))⟩,
    ⟨Rect.unit ![256, 0] S256x4096.size inb_S2048x4096_S256x4096_256_0, k0_pay6 x8 (View.ld x7 (Rect.unit ![256, 0] S256x4096.size inb_S2048x4096_S256x4096_256_0))⟩,
    ⟨Rect.unit ![0, 0] S256x4096.size inb_S2048x4096_S256x4096_0_0, k0_pay5 x8 (View.ld x7 (Rect.unit ![0, 0] S256x4096.size inb_S2048x4096_S256x4096_0_0))⟩]

/-- Every entry of the weight scratch lies in one of the eight row blocks. -/
theorem pieces_cover (x7 : Vec F S2048x4096 .fp8e4m3) (x8 : Vec F S1x4096 .f32) (y : S2048x4096.Idx) :
    ∃ p ∈ pieces x7 x8, y ∈ p.1.set := View.cover_of_tiledL (pieces x7 x8) S256x4096.size (by sl_kernel_rfl) y

/-- What the first point leaves in the weight scratch: the widened weights. -/
def fill (x7 : Vec F S2048x4096 .fp8e4m3) (x8 : Vec F S1x4096 .f32) : Vec F S2048x4096 .bf16 := View.canon (pieces x7 x8)

/-- The block of dx that a point writes, over the point's input blocks and the widened weights `w`. -/
def dxB (x0 : Vec F S256x4096 .bf16) (x1 : Vec F S256x2048 .fp8e4m3) (x2 x3 x4 : Vec F S256x1 .f32) (x5 : Vec F S1x2048 .f32)
    (w : Vec F S2048x4096 .bf16) : Vec F S256x2048 .bf16 := k0_pay3 (k0_pay16 x0 w) (k0_pay17 x1 x2 x4 x3) x5 x3

/-- The block of the layer norm's output that a point writes. -/
def xhB (x1 : Vec F S256x2048 .fp8e4m3) (x2 x3 x4 : Vec F S256x1 .f32) (x5 x6 : Vec F S1x2048 .f32) : Vec F S256x2048 .bf16 :=
  k0_pay18 x1 x2 x4 x3 x5 x6

/-- The running sum of dgamma after a point that found `acc`. -/
def dgB (x0 : Vec F S256x4096 .bf16) (x1 : Vec F S256x2048 .fp8e4m3) (x2 x3 x4 : Vec F S256x1 .f32)
    (w : Vec F S2048x4096 .bf16) (acc : Vec F S1x2048 .f32) : Vec F S1x2048 .f32 :=
  k0_pay1 (k0_pay16 x0 w) (k0_pay17 x1 x2 x4 x3) (k0_pay19 acc)

/-- The running sum of dbeta after a point that found `acc`. -/
def dbB (x0 : Vec F S256x4096 .bf16) (w : Vec F S2048x4096 .bf16) (acc : Vec F S1x2048 .f32) : Vec F S1x2048 .f32 :=
  k0_pay2 (k0_pay16 x0 w) acc

/-- The offsets of a whole-array access are the zero function. -/
theorem zero2 : (![0, 0] : Fin 2 → ℕ) = fun _ => 0 := by decide

section Whole

variable {Val : EltTy → Type} {sig : RefSig} {κ : Kind} {sp : Space} {e : EltTy} {a b : ℕ}

/-- A load of a whole matrix reads the view's contents. -/
theorem readAt_whole2 (v : View sig κ sp ⟨2, ![a, b]⟩ e) (inb : ∀ k, (![0, 0] : Fin 2 → ℕ) k + (![a, b] : Fin 2 → ℕ) k ≤ (⟨2, ![a, b]⟩ : Shape).size k)
    (f : v.ty.Contents Val) : v.readAt Val (Rect.unit (s := ⟨2, ![a, b]⟩) ![0, 0] ![a, b] inb).toLoadRect f = v.read Val f :=
  View.readAt_full v f inb

/-- A load of a whole matrix after a store of the whole matrix reads what was stored. -/
theorem readCov_whole2 [∀ e, Nonempty (Val e)] (v : View sig κ sp ⟨2, ![a, b]⟩ e) (inb inb' : ∀ k, (![0, 0] : Fin 2 → ℕ) k + (![a, b] : Fin 2 → ℕ) k ≤ (⟨2, ![a, b]⟩ : Shape).size k)
    (w : (⟨2, ![a, b]⟩ : Shape).Idx → Val e) (L : List (View.Piece Val ⟨2, ![a, b]⟩ e)) :
    v.readCov ((⟨Rect.unit (s := ⟨2, ![a, b]⟩) ![0, 0] ![a, b] inb', w⟩ : View.Piece Val ⟨2, ![a, b]⟩ e) :: L) (Rect.unit (s := ⟨2, ![a, b]⟩) ![0, 0] ![a, b] inb).toLoadRect = w :=
  View.readCov_full v inb inb' w L

/-- The whole-matrix part of a matrix is the matrix. -/
theorem ld_whole2 (X : (⟨2, ![a, b]⟩ : Shape).Idx → Val e) (inb : ∀ k, (![0, 0] : Fin 2 → ℕ) k + (![a, b] : Fin 2 → ℕ) k ≤ (⟨2, ![a, b]⟩ : Shape).size k) :
    View.ld X (Rect.unit (s := ⟨2, ![a, b]⟩) ![0, 0] ![a, b] inb) = X := View.ld_unit_zero zero2 inb X

end Whole

set_option maxHeartbeats 2000000 in
/-- The body at the first point: whatever the output buffers and the scratch held, it fills the scratch, clears the two sums and leaves the blocks named above. -/
theorem runA (c : Dev nD) (i : grid0.Coords) (arg1 : Memref sig .tc .vmem S256x4096 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4096 .fp8e4m3) (harg8 : arg8.IsWhole) (arg9 : Memref sig .tc .vmem S1x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S2048x4096 .bf16) (harg14 : arg14.IsWhole) (hc0 : isFirst i)
    (x0 : Vec F S256x4096 .bf16) (x1 : Vec F S256x2048 .fp8e4m3) (x2 : Vec F S256x1 .f32) (x3 : Vec F S256x1 .f32) (x4 : Vec F S256x1 .f32) (x5 : Vec F S1x2048 .f32) (x6 : Vec F S1x2048 .f32) (x7 : Vec F S2048x4096 .fp8e4m3) (x8 : Vec F S1x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxB x0 x1 x2 x3 x4 x5 (fill x7 x8)) ∗ owns (c : Thread nD τ) arg11 fullShare (xhB x1 x2 x3 x4 x5 x6)
            ∗ owns (c : Thread nD τ) arg12 fullShare (dgB x0 x1 x2 x3 x4 (fill x7 x8) k0_pay14) ∗ owns (c : Thread nD τ) arg13 fullShare (dbB x0 (fill x7 x8) k0_pay15) ∗ owns (c : Thread nD τ) arg14 fullShare (fill x7 x8)) -∗ K ⟨⟩))
      ⊢ wp frame (wpE (defs₀ (F := F)) Variants.none c none) E (cc0_ln_qkv_dx i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_ln_qkv_dx_eq_skeleton]; unfold cc0_ln_qkv_dx_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    have hfill : runA.sl.HS0_8 c arg8 harg8 arg9 harg9 x7 x8 = pieces x7 x8 := by
      delta runA.sl.HS0_8 runA.sl.r runA.sl.r_1
      simp only [View.readAt_eq_ld, ld_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
      rfl
    have hv5 : runA.sl.v5 c arg8 harg8 arg9 harg9 arg14 x7 x8 = fill x7 x8 := by
      delta runA.sl.v5; rw [hfill, View.readCov_eq_canon_ld _ _ _ (pieces_cover x7 x8), View.ld_unit_zero zero2]; rfl
    isplitl [H9]
    · iexists _; isplitr
      swap; · iexact H9
      ipureintro
      refine (View.read_writes_full _ _ _ _ _).trans ?_
      delta dxB runA.sl.r_2 runA.sl.r_3
      simp only [hv5, readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H10]
    · iexists _; isplitr
      swap; · iexact H10
      ipureintro
      refine (View.read_writes_full _ _ _ _ _).trans ?_
      delta xhB
      simp only [hv5, readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H11]
    · iexists _; isplitr
      swap; · iexact H11
      ipureintro
      refine (View.read_writes_full _ _ _ _ _).trans ?_
      delta dgB runA.sl.r_2 runA.sl.r_3 runA.sl.r_4 runA.sl.v32 runA.sl.H11_1
      simp only [hv5, readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H12]
    · iexists _; isplitr
      swap; · iexact H12
      ipureintro
      refine (View.read_writes_full _ _ _ _ _).trans ?_
      delta dbB runA.sl.r_2 runA.sl.v39 runA.sl.H12_1
      simp only [hv5, readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    iexists _; isplitr
    swap; · iexact HS0
    ipureintro; rw [hfill]; exact View.read_writes_eq_canon _ _ _ (pieces_cover x7 x8)

set_option maxHeartbeats 2000000 in
/-- The body at a later point: the scratch holds the widened weights `xs0` and keeps them, and the two sums go on from what they held. -/
theorem runB (c : Dev nD) (i : grid0.Coords) (arg1 : Memref sig .tc .vmem S256x4096 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4096 .fp8e4m3) (harg8 : arg8.IsWhole) (arg9 : Memref sig .tc .vmem S1x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S2048x4096 .bf16) (harg14 : arg14.IsWhole) (hc0 : ¬isFirst i)
    (x0 : Vec F S256x4096 .bf16) (x1 : Vec F S256x2048 .fp8e4m3) (x2 : Vec F S256x1 .f32) (x3 : Vec F S256x1 .f32) (x4 : Vec F S256x1 .f32) (x5 : Vec F S1x2048 .f32) (x6 : Vec F S1x2048 .f32) (x7 : Vec F S2048x4096 .fp8e4m3) (x8 : Vec F S1x4096 .f32) (xo11 xo12 : Vec F S1x2048 .f32) (xs0 : Vec F S2048x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xo11 ∗ owns (c : Thread nD τ) arg13 fullShare xo12 ∗ owns (c : Thread nD τ) arg14 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxB x0 x1 x2 x3 x4 x5 xs0) ∗ owns (c : Thread nD τ) arg11 fullShare (xhB x1 x2 x3 x4 x5 x6)
            ∗ owns (c : Thread nD τ) arg12 fullShare (dgB x0 x1 x2 x3 x4 xs0 xo11) ∗ owns (c : Thread nD τ) arg13 fullShare (dbB x0 xs0 xo12) ∗ owns (c : Thread nD τ) arg14 fullShare xs0) -∗ K ⟨⟩))
      ⊢ wp frame (wpE (defs₀ (F := F)) Variants.none c none) E (cc0_ln_qkv_dx i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_ln_qkv_dx_eq_skeleton]; unfold cc0_ln_qkv_dx_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hf11; obtain rfl := harg13.eq_unread hf12; obtain rfl := harg14.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr
      swap; · iexact H9
      ipureintro
      refine (View.read_writes_full _ _ _ _ _).trans ?_
      delta dxB runB.sl.r runB.sl.r_1
      simp only [readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H10]
    · iexists _; isplitr
      swap; · iexact H10
      ipureintro
      refine (View.read_writes_full _ _ _ _ _).trans ?_
      delta xhB
      simp only [readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H11]
    · iexists _; isplitr
      swap; · iexact H11
      ipureintro
      refine (View.read_writes_full _ _ _ _ _).trans ?_
      delta dgB runB.sl.r runB.sl.r_1 runB.sl.r_2
      simp only [readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H12]
    · iexists _; isplitr
      swap; · iexact H12
      ipureintro
      refine (View.read_writes_full _ _ _ _ _).trans ?_
      delta dbB runB.sl.r
      simp only [readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    iexists _; isplitr; · ipureintro; exact harg14.read_unread _
    iexact HS0

end Cert.KernelIdeal.Dx

end
-- ==== Proof.Ideal.DxData.lean ====
/-
The proof data of the first kernel's pipeline, over whatever its arrays hold when it is entered, and the proof that the body keeps to them.
-/
module

public import proofs.«01_k».proof.Proof.Ideal.DxBody

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The widened weights that the first point leaves in the scratch, read off the codes and scales as the region finds them. -/
def wts (c : Dev nD) : Vec F S2048x4096 .bf16 := fill (iblk V c 7 t0_0) (iblk V c 8 t0_0)

/-- The running sum of dgamma after point `n`. -/
def dgAt (c : Dev nD) : (n : ℕ) → n < cfg0.N → Vec F S1x2048 .f32
  | 0, h => dgB (iblk V c 0 ⟨0, h⟩) (iblk V c 1 ⟨0, h⟩) (iblk V c 2 ⟨0, h⟩) (iblk V c 3 ⟨0, h⟩) (iblk V c 4 ⟨0, h⟩) (wts V c) k0_pay14
  | n + 1, h => dgB (iblk V c 0 ⟨n + 1, h⟩) (iblk V c 1 ⟨n + 1, h⟩) (iblk V c 2 ⟨n + 1, h⟩) (iblk V c 3 ⟨n + 1, h⟩) (iblk V c 4 ⟨n + 1, h⟩) (wts V c)
      (dgAt c n (Nat.lt_of_succ_lt h))

/-- The running sum of dbeta after point `n`. -/
def dbAt (c : Dev nD) : (n : ℕ) → n < cfg0.N → Vec F S1x2048 .f32
  | 0, h => dbB (iblk V c 0 ⟨0, h⟩) (wts V c) k0_pay15
  | n + 1, h => dbB (iblk V c 0 ⟨n + 1, h⟩) (wts V c) (dbAt c n (Nat.lt_of_succ_lt h))

/-- The weight scratch as a memref. -/
abbrev scM : Memref sig .tc .vmem S2048x4096 .bf16 := Memref.whole cc0_scratch0

/-- The other scoped buffers that this kernel does not stage, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped buffers that this kernel does not stage: the weight scratch and the others. -/
theorem rest_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ others c) := by
  unfold others; rw [scopedRest0_eq]; simp only [scM, owns_whole]; try rfl

/-- The invariant before point `n`: at first the scratch holds anything; afterwards it holds the widened weights. -/
def inv (c : Dev nD) : (n : ℕ) → n ≤ cfg0.N → sProp 𝕄
  | 0, _ => Pipeline.scopedRest spec0 c
  | _ + 1, _ => iprop(owns (c : Thread nD τ) scM fullShare (wts V c) ∗ others c)

/-- Before the first point the invariant is the buffers not staged, at anything. -/
theorem inv_zero (c : Dev nD) (n : ℕ) (h : n ≤ cfg0.N) (hz : n = 0) : inv V c n h = Pipeline.scopedRest spec0 c := by
  subst hz; rfl

/-- Before a later point the invariant has the widened weights in the scratch. -/
theorem inv_pos (c : Dev nD) (n : ℕ) (h : n ≤ cfg0.N) (hz : n ≠ 0) :
    inv V c n h = iprop(owns (c : Thread nD τ) scM fullShare (wts V c) ∗ others c) := by
  cases n with
  | zero => exact absurd rfl hz
  | succ n => rfl

/-- The proof data of the first kernel's pipeline on core `c`: the arrays as the region finds them; after the body at
    point `t` each input's buffer at its block and each output's at the terms above; the invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => dxB (iblk V c 0 t) (iblk V c 1 t) (iblk V c 2 t) (iblk V c 3 t) (iblk V c 4 t) (iblk V c 5 t) (wts V c)
    | ⟨10, _⟩ => xhB (iblk V c 1 t) (iblk V c 2 t) (iblk V c 3 t) (iblk V c 4 t) (iblk V c 5 t) (iblk V c 6 t)
    | ⟨11, _⟩ => dgAt V c t.val t.isLt
    | ⟨12, _⟩ => dbAt V c t.val t.isLt
  Φ t := inv V c t.val (Nat.le_of_lt_succ t.isLt)
  q _ := fullShare
  owed _ := 0

/-- Each window's array is what the region finds. -/
theorem A_eq (c : Dev nD) (w : Fin cfg0.W) : (dat V c).A w = V c (Pipeline.arrRef spec0 w) := by dsimp only [dat]

/-- What the body leaves in the buffer of the upstream gradient. -/
theorem after0 (c : Dev nD) (t : Fin cfg0.N) : (dat V c).after 0 t = iblk V c 0 t := by dsimp only [dat]
/-- What the body leaves in the buffer of the codes. -/
theorem after1 (c : Dev nD) (t : Fin cfg0.N) : (dat V c).after 1 t = iblk V c 1 t := by dsimp only [dat]
/-- What the body leaves in the buffer of the row scales. -/
theorem after2 (c : Dev nD) (t : Fin cfg0.N) : (dat V c).after 2 t = iblk V c 2 t := by dsimp only [dat]
/-- What the body leaves in the buffer of the reciprocal deviations. -/
theorem after3 (c : Dev nD) (t : Fin cfg0.N) : (dat V c).after 3 t = iblk V c 3 t := by dsimp only [dat]
/-- What the body leaves in the buffer of the means. -/
theorem after4 (c : Dev nD) (t : Fin cfg0.N) : (dat V c).after 4 t = iblk V c 4 t := by dsimp only [dat]
/-- What the body leaves in the buffer of the gains. -/
theorem after5 (c : Dev nD) (t : Fin cfg0.N) : (dat V c).after 5 t = iblk V c 5 t := by dsimp only [dat]
/-- What the body leaves in the buffer of the offsets. -/
theorem after6 (c : Dev nD) (t : Fin cfg0.N) : (dat V c).after 6 t = iblk V c 6 t := by dsimp only [dat]
/-- What the body leaves in the buffer of the weight codes. -/
theorem after7 (c : Dev nD) (t : Fin cfg0.N) : (dat V c).after 7 t = iblk V c 7 t := by dsimp only [dat]
/-- What the body leaves in the buffer of the weight scales. -/
theorem after8 (c : Dev nD) (t : Fin cfg0.N) : (dat V c).after 8 t = iblk V c 8 t := by dsimp only [dat]
/-- What the body leaves in the buffer of the input's gradient. -/
theorem after9 (c : Dev nD) (t : Fin cfg0.N) : (dat V c).after 9 t = dxB (iblk V c 0 t) (iblk V c 1 t) (iblk V c 2 t) (iblk V c 3 t) (iblk V c 4 t) (iblk V c 5 t) (wts V c) := by dsimp only [dat]
/-- What the body leaves in the buffer of the layer norm's output. -/
theorem after10 (c : Dev nD) (t : Fin cfg0.N) : (dat V c).after 10 t = xhB (iblk V c 1 t) (iblk V c 2 t) (iblk V c 3 t) (iblk V c 4 t) (iblk V c 5 t) (iblk V c 6 t) := by dsimp only [dat]
/-- What the body leaves in the buffer of dgamma. -/
theorem after11 (c : Dev nD) (t : Fin cfg0.N) : (dat V c).after 11 t = dgAt V c t.val t.isLt := by dsimp only [dat]
/-- What the body leaves in the buffer of dbeta. -/
theorem after12 (c : Dev nD) (t : Fin cfg0.N) : (dat V c).after 12 t = dbAt V c t.val t.isLt := by dsimp only [dat]

/-! Each input's staging buffer holds its block when the body runs. -/

/-- When the body runs, the buffer of the upstream gradient holds its block. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- When the body runs, the buffer of the codes holds its block. -/
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- When the body runs, the buffer of the row scales holds its block. -/
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- When the body runs, the buffer of the reciprocal deviations holds its block. -/
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- When the body runs, the buffer of the means holds its block. -/
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- When the body runs, the buffer of the gains holds its block. -/
theorem before5 (c : Dev nD) (t : Fin cfg0.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- When the body runs, the buffer of the offsets holds its block. -/
theorem before6 (c : Dev nD) (t : Fin cfg0.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- When the body runs, the buffer of the weight codes holds its block. -/
theorem before7 (c : Dev nD) (t : Fin cfg0.N) (d) : (dat V c).before 7 t d = iblk V c 7 t :=
  ((dat V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
/-- When the body runs, the buffer of the weight scales holds its block. -/
theorem before8 (c : Dev nD) (t : Fin cfg0.N) (d) : (dat V c).before 8 t d = iblk V c 8 t :=
  ((dat V c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
/-- At a later point the dgamma buffer holds what the point before left. -/
theorem before11 (c : Dev nD) (t : Fin cfg0.N) (h0 : ¬t.val = 0) (d) :
    (dat V c).before 11 t d = dgAt V c (t.val - 1) (Nat.lt_of_le_of_lt (Nat.sub_le _ _) t.isLt) := by
  have hN : t.val < 4 := lt_of_lt_of_eq t.isLt (show cfg0.N = 4 from N_0)
  rw [Dat.before_out_kept _ 11 rfl t (by omega) (Bool.eq_false_iff.mpr fun h => by have := (flush0_11 _).mp h; dsimp only at this; omega)
    (fun _ => rfl) (fun _ _ => rfl)]
  dsimp only [dat]
/-- At a later point the dbeta buffer holds what the point before left. -/
theorem before12 (c : Dev nD) (t : Fin cfg0.N) (h0 : ¬t.val = 0) (d) :
    (dat V c).before 12 t d = dbAt V c (t.val - 1) (Nat.lt_of_le_of_lt (Nat.sub_le _ _) t.isLt) := by
  have hN : t.val < 4 := lt_of_lt_of_eq t.isLt (show cfg0.N = 4 from N_0)
  rw [Dat.before_out_kept _ 12 rfl t (by omega) (Bool.eq_false_iff.mpr fun h => by have := (flush0_12 _).mp h; dsimp only at this; omega)
    (fun _ => rfl) (fun _ _ => rfl)]
  dsimp only [dat]

/-- The first point starts the sum of dgamma from zero. -/
theorem dgAt_first (c : Dev nD) (t : Fin cfg0.N) (h0 : t.val = 0) :
    dgAt V c t.val t.isLt = dgB (iblk V c 0 t) (iblk V c 1 t) (iblk V c 2 t) (iblk V c 3 t) (iblk V c 4 t) (wts V c) k0_pay14 := by
  obtain ⟨n, hn⟩ := t; dsimp only at h0; subst h0; rfl
/-- A later point adds its block onto the sum of dgamma. -/
theorem dgAt_later (c : Dev nD) (t : Fin cfg0.N) (h0 : ¬t.val = 0) :
    dgAt V c t.val t.isLt = dgB (iblk V c 0 t) (iblk V c 1 t) (iblk V c 2 t) (iblk V c 3 t) (iblk V c 4 t) (wts V c)
      (dgAt V c (t.val - 1) (Nat.lt_of_le_of_lt (Nat.sub_le _ _) t.isLt)) := by
  obtain ⟨n, hn⟩ := t
  cases n with
  | zero => exact absurd rfl h0
  | succ n => rfl
/-- The first point starts the sum of dbeta from zero. -/
theorem dbAt_first (c : Dev nD) (t : Fin cfg0.N) (h0 : t.val = 0) : dbAt V c t.val t.isLt = dbB (iblk V c 0 t) (wts V c) k0_pay15 := by
  obtain ⟨n, hn⟩ := t; dsimp only at h0; subst h0; rfl
/-- A later point adds its block onto the sum of dbeta. -/
theorem dbAt_later (c : Dev nD) (t : Fin cfg0.N) (h0 : ¬t.val = 0) :
    dbAt V c t.val t.isLt = dbB (iblk V c 0 t) (wts V c) (dbAt V c (t.val - 1) (Nat.lt_of_le_of_lt (Nat.sub_le _ _) t.isLt)) := by
  obtain ⟨n, hn⟩ := t
  cases n with
  | zero => exact absurd rfl h0
  | succ n => rfl
/-- At the first point the widened weights are those of the blocks that this point reads. -/
theorem wts_first (c : Dev nD) (t : Fin cfg0.N) (h0 : t.val = 0) : wts V c = fill (iblk V c 7 t) (iblk V c 8 t) := by
  obtain ⟨n, hn⟩ := t; dsimp only at h0; subst h0; rfl

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t))

set_option maxHeartbeats 1000000 in
/-- The body at any point meets its obligation: the first point fills the scratch, the later ones find it filled. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).owesAt () t.succ = (dat V c).owesAt () t.castSucc from rfl,
    after0, after1, after2, after3, after4, after5, after6, after7, after8, after9, after10, after11, after12]
  rw [show (dat V c).Φ t.succ = inv V c (t.val + 1) t.isLt from rfl, inv_pos V c _ _ (Nat.succ_ne_zero _),
    show (dat V c).Φ t.castSucc = inv V c t.val (Nat.le_of_lt t.isLt) from rfl]
  by_cases h0 : t.val = 0
  · rw [inv_zero V c _ _ h0, rest_eq, dgAt_first V c t h0, dbAt_first V c t h0, wts_first V c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) _ _ _ _ _ _ _ _ _ _ _ _ _ _ _ _ _ _ _ _ _ _ _ _ _ _ _ _ ((isFirst_iff t).mpr h0) (iblk V c 0 t) (iblk V c 1 t) (iblk V c 2 t) (iblk V c 3 t) (iblk V c 4 t) (iblk V c 5 t) (iblk V c 6 t) (iblk V c 7 t) (iblk V c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, H8, H9, H10, H11, H12, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [inv_pos V c _ _ h0, dgAt_later V c t h0, dbAt_later V c t h0]
    simp only [before11 V c t h0, before12 V c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runB c (grid0.coords t) _ _ _ _ _ _ _ _ _ _ _ _ _ _ _ _ _ _ _ _ _ _ _ _ _ _ _ _ (fun h => h0 ((isFirst_iff t).mp h)) (iblk V c 0 t) (iblk V c 1 t) (iblk V c 2 t) (iblk V c 3 t) (iblk V c 4 t) (iblk V c 5 t) (iblk V c 6 t) (iblk V c 7 t) (iblk V c 8 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [HS0]; · iexact HS0
    iintro ⟨H0, H1, H2, H3, H4, H5, H6, H7, H8, H9, H10, H11, H12, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- After the last point the invariant gives the scratch back at some contents. -/
theorem inv_last (c : Dev nD) : (dat V c).Φ (Fin.last cfg0.N) ⊢ (Pipeline.scopedRest spec0 c : sProp 𝕄) := by
  rw [show (dat V c).Φ (Fin.last cfg0.N) = inv V c cfg0.N (Nat.le_refl _) from rfl,
    inv_pos V c _ _ (by have : cfg0.N = 4 := N_0; omega), rest_eq]
  iintro ⟨HS0, Hg⟩
  isplitl [HS0]
  · iexists _; iexact HS0
  iexact Hg

end Cert.KernelIdeal.Dx

end
-- ==== Proof.Ideal.DwData.lean ====
/-
The second kernel: its body, the proof data of its pipeline over whatever its arrays hold when it is entered, and the proof that the body keeps to them.
-/
module

public import proofs.«01_k».proof.Proof.Ideal.DxBody

@[expose] public section

set_option maxRecDepth 16384

noncomputable section

namespace Cert.KernelIdeal.Dw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of dW that a point writes. -/
def dwB (x0 : Vec F S1024x2048 .bf16) (x1 : Vec F S1024x512 .bf16) : Vec F S2048x512 .f32 := k1_pay1 x0 x1

set_option maxHeartbeats 1000000 in
/-- The body on whole staging buffers: it leaves the inputs as they were and the output at the block above. -/
theorem run (c : Dev nD) (E : Set ℕ) (i : grid1.Coords) (arg1 : Memref sig .tc .vmem S1024x2048 .bf16) (harg1 : arg1.IsWhole) (arg2 : Memref sig .tc .vmem S1024x512 .bf16) (harg2 : arg2.IsWhole) (arg3 : Memref sig .tc .vmem S2048x512 .f32) (harg3 : arg3.IsWhole)
    (x0 : Vec F S1024x2048 .bf16) (x1 : Vec F S1024x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (dwB x0 x1)) -∗ K ⟨⟩))
      ⊢ wp frame (wpE (defs₀ (F := F)) Variants.none c none) E (cc1_ln_qkv_dw i arg1 harg1 arg2 harg2 arg3 harg3) K := by
  simp only [cc1_ln_qkv_dw_eq_skeleton]; unfold cc1_ln_qkv_dw_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_full _ _ _ _ _).trans ?_
  delta dwB
  simp only [Dx.readAt_whole2]

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second kernel's pipeline on core `c`: the arrays as the region finds them; after the body each
    input's buffer at its block and the output's at the block of dW; the invariant is the buffers not staged; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => dwB (iblk V c 0 t) (iblk V c 1 t)
  Φ _ := Pipeline.scopedRest spec1 c
  q _ := fullShare
  owed _ := 0

/-- Each window's array is what the region finds. -/
theorem A_eq (c : Dev nD) (w : Fin cfg1.W) : (dat V c).A w = V c (Pipeline.arrRef spec1 w) := by dsimp only [dat]

/-- What the body leaves in the buffer of the layer norm's output. -/
theorem after0 (c : Dev nD) (t : Fin cfg1.N) : (dat V c).after 0 t = iblk V c 0 t := by dsimp only [dat]
/-- What the body leaves in the buffer of the upstream gradient. -/
theorem after1 (c : Dev nD) (t : Fin cfg1.N) : (dat V c).after 1 t = iblk V c 1 t := by dsimp only [dat]
/-- What the body leaves in the buffer of dW. -/
theorem after2 (c : Dev nD) (t : Fin cfg1.N) : (dat V c).after 2 t = dwB (iblk V c 0 t) (iblk V c 1 t) := by dsimp only [dat]

/-! Each input's staging buffer holds its block when the body runs. -/

/-- When the body runs, the buffer of the layer norm's output holds its block. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- When the body runs, the buffer of the upstream gradient holds its block. -/
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point meets its obligation. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl, after0, after1, after2]
  iintro ⟨HΦ, Ho, ⟨%d0, H0⟩, ⟨%d1, H1⟩, ⟨%d2, H2⟩⟩
  iapply (run c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

/-- The body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.KernelIdeal.Dw

end
-- ==== Proof.Ideal.Run.lean ====
/-
The whole program: the two regions one after the other between the host's reshapes, and what every buffer holds at the end.
-/
module

public import proofs.«01_k».proof.Proof.Gen.KernelIdeal.Regions
public import proofs.«01_k».proof.Proof.Ideal.DxData
public import proofs.«01_k».proof.Proof.Ideal.DwData
public import Idealize.ShloMosaic.Lib.Pipeline.RegionsLoop

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the regions -/

/-- What the first region finds: the arguments as launched and their reshapes. -/
def ent0 (c : Dev nD) (b : Ref sig .tc) : Buf (Elt F) ((c : Thread nD τ).loc b) := V1 m c b

/-- After the first region: its four arrays at what its write-backs leave. -/
def mid (c : Dev nD) : Valuation τ sig (Elt F) :=
  Function.update (Function.update (Function.update (Function.update (V1 m c) main_v8_0 ((Dx.dat (ent0 m) c).arrAt 9 cfg0.N))
    main_v8_1 ((Dx.dat (ent0 m) c).arrAt 10 cfg0.N)) main_v8_2 ((Dx.dat (ent0 m) c).arrAt 11 cfg0.N)) main_v8_3 ((Dx.dat (ent0 m) c).arrAt 12 cfg0.N)

/-- What the second region finds. -/
def ent1 (c : Dev nD) (b : Ref sig .tc) : Buf (Elt F) ((c : Thread nD τ).loc b) := mid m c b

/-- After the second region: its array at what its write-backs leave. -/
def last (c : Dev nD) : Valuation τ sig (Elt F) := Function.update (mid m c) main_v9 ((Dw.dat (ent1 m) c).arrAt 2 cfg1.N)

/-- The first region changes only its four result arrays. -/
theorem mid_of (c : Dev nD) (r : Ref sig .tc) (h : r ∉ ([main_v8_0, main_v8_1, main_v8_2, main_v8_3] : List (Ref sig .tc))) : mid m c r = V1 m c r := by
  simp only [List.mem_cons, List.not_mem_nil, _root_.or_false, not_or] at h
  obtain ⟨h0, h1, h2, h3⟩ := h
  unfold mid
  rw [Function.update_of_ne (fun e => h3 (Proc.devRef_injective _ e)), Function.update_of_ne (fun e => h2 (Proc.devRef_injective _ e)),
    Function.update_of_ne (fun e => h1 (Proc.devRef_injective _ e)), Function.update_of_ne (fun e => h0 (Proc.devRef_injective _ e))]
/-- After the first region the input's gradient is what its write-backs leave. -/
theorem mid_0 (c : Dev nD) : mid m c main_v8_0 = (Dx.dat (ent0 m) c).arrAt 9 cfg0.N := by
  unfold mid
  rw [Function.update_of_ne (by decide), Function.update_of_ne (by decide), Function.update_of_ne (by decide), Function.update_self]
/-- After the first region the layer norm's output is what its write-backs leave. -/
theorem mid_1 (c : Dev nD) : mid m c main_v8_1 = (Dx.dat (ent0 m) c).arrAt 10 cfg0.N := by
  unfold mid
  rw [Function.update_of_ne (by decide), Function.update_of_ne (by decide), Function.update_self]
/-- After the first region dgamma is what its write-backs leave. -/
theorem mid_2 (c : Dev nD) : mid m c main_v8_2 = (Dx.dat (ent0 m) c).arrAt 11 cfg0.N := by
  unfold mid
  rw [Function.update_of_ne (by decide), Function.update_self]
/-- After the first region dbeta is what its write-backs leave. -/
theorem mid_3 (c : Dev nD) : mid m c main_v8_3 = (Dx.dat (ent0 m) c).arrAt 12 cfg0.N := by
  unfold mid
  rw [Function.update_self]
/-- The second region changes only dW. -/
theorem last_of (c : Dev nD) (r : Ref sig .tc) (h : r ∉ ([main_v9] : List (Ref sig .tc))) : last m c r = mid m c r := by
  simp only [List.mem_cons, List.not_mem_nil, _root_.or_false] at h
  unfold last
  rw [Function.update_of_ne (fun e => h (Proc.devRef_injective _ e))]
/-- After the second region dW is what its write-backs leave. -/
theorem last_9 (c : Dev nD) : last m c main_v9 = (Dw.dat (ent1 m) c).arrAt 2 cfg1.N := by
  unfold last; rw [Function.update_self]

/-- What the regions leave, as the unknowns of the generated valuations. -/
def outs : Outs (F := F) := fun _ r c => last m c r

/-- The generated valuation after the first region is `mid`, -/
theorem V2_eq (c : Dev nD) : V2 m (outs m) c = mid m c := by
  have e0 : outs m 2 main_v8_0 c = (Dx.dat (ent0 m) c).arrAt 9 cfg0.N := (last_of m c _ (by decide)).trans (mid_0 m c)
  have e1 : outs m 2 main_v8_1 c = (Dx.dat (ent0 m) c).arrAt 10 cfg0.N := (last_of m c _ (by decide)).trans (mid_1 m c)
  have e2 : outs m 2 main_v8_2 c = (Dx.dat (ent0 m) c).arrAt 11 cfg0.N := (last_of m c _ (by decide)).trans (mid_2 m c)
  have e3 : outs m 2 main_v8_3 c = (Dx.dat (ent0 m) c).arrAt 12 cfg0.N := (last_of m c _ (by decide)).trans (mid_3 m c)
  unfold V2 mid
  rw [e0, e1, e2, e3]
/-- and the one after the second region is `last`. -/
theorem V3_eq (c : Dev nD) : V3 m (outs m) c = last m c := by
  have e0 : outs m 3 main_v9 c = (Dw.dat (ent1 m) c).arrAt 2 cfg1.N := last_9 m c
  unfold V3 last
  rw [e0, V2_eq]

/-! ## The regions' records -/

/-- Each pipeline's proof data, at what its region finds. -/
def pdats : (p : Fin 2) → (c : Dev nD) → Dat τ (Elt F) Unit ℕ (UR sig nD τ) ℕ (cfgs p) c
  | ⟨0, _⟩ => fun c => Dx.dat (ent0 m) c
  | ⟨1, _⟩ => fun c => Dw.dat (ent1 m) c

/-- The program has no loop that needs a variant. -/
abbrev 𝒱₀ : Variants := Variants.none
/-- No core owes another anything: no level is assigned. -/
abbrev L : GSem nD τ sig → Finset Unit := fun _ => ∅
/-- All waits are on one level. -/
abbrev lv : GSem nD τ sig → Unit → ℕ := fun _ _ => 0

/-- What rides beside the buffers: the core owes nothing. -/
def rides (c : Dev nD) : sProp 𝕄 := iprop(∃ W, owes (c : Thread nD τ) (0 : CellTallies nD τ sig Unit) W)

/-- The first region's arrays after it, as `mid` has them. -/
theorem arrays0 (c : Dev nD) (w : Fin cfg0.W) : (pdats m 0 c).arrAt w cfg0.N = mid m c (Pipeline.arrRef spec0 w) := by
  fin_cases w
  · exact ((Dx.dat (ent0 m) c).arrAt_in 0 rfl _).trans (mid_of m c main_v0 (by decide)).symm
  · exact ((Dx.dat (ent0 m) c).arrAt_in 1 rfl _).trans (mid_of m c main_v1 (by decide)).symm
  · exact ((Dx.dat (ent0 m) c).arrAt_in 2 rfl _).trans (mid_of m c main_v2 (by decide)).symm
  · exact ((Dx.dat (ent0 m) c).arrAt_in 3 rfl _).trans (mid_of m c main_v3 (by decide)).symm
  · exact ((Dx.dat (ent0 m) c).arrAt_in 4 rfl _).trans (mid_of m c main_v4 (by decide)).symm
  · exact ((Dx.dat (ent0 m) c).arrAt_in 5 rfl _).trans (mid_of m c main_v5 (by decide)).symm
  · exact ((Dx.dat (ent0 m) c).arrAt_in 6 rfl _).trans (mid_of m c main_v6 (by decide)).symm
  · exact ((Dx.dat (ent0 m) c).arrAt_in 7 rfl _).trans (mid_of m c main_arg6 (by decide)).symm
  · exact ((Dx.dat (ent0 m) c).arrAt_in 8 rfl _).trans (mid_of m c main_v7 (by decide)).symm
  · exact (mid_0 m c).symm
  · exact (mid_1 m c).symm
  · exact (mid_2 m c).symm
  · exact (mid_3 m c).symm

/-- The second region's arrays after it, as `last` has them. -/
theorem arrays1 (c : Dev nD) (w : Fin cfg1.W) : (pdats m 1 c).arrAt w cfg1.N = last m c (Pipeline.arrRef spec1 w) := by
  fin_cases w
  · exact ((Dw.dat (ent1 m) c).arrAt_in 0 rfl _).trans (last_of m c main_v8_1 (by decide)).symm
  · exact ((Dw.dat (ent1 m) c).arrAt_in 1 rfl _).trans (last_of m c main_v0 (by decide)).symm
  · exact (last_9 m c).symm

-- unification of the launch lemmas at the pinned configuration unfolds plain definitions in a metavariable's type
set_option backward.isDefEq.respectTransparency.types false in
/-- Region 0 over the thread state "every unscoped buffer at a valuation, and the core owes nothing": entered at the
    valuation before it, left at the valuation after it. -/
def reg0 : Pipeline.RegionSeg (pcfgs (F := F)) adm (pdats m) () defs₀ 𝒱₀ L lv 0 where
  win := (launch0).win.to₀
  block_pos := (launch0).block_pos
  stage_whole := (launch0).stage_whole
  K := PEmpty
  osem k := k.elim
  ho := Pipeline.OwnSemFacts.none _
  hbody c := (Dx.body_obligation (ent0 m) c).loose
  hwaits := Pipeline.hwaits_of_owed_zero _ _ _ _ L lv 0 fun _ _ => rfl
  pre c := iprop(StableHlo.held (c : Thread nD τ) (Pipeline.ucRefs τ sig) (V1 m c) ∗ rides c)
  post c := iprop(StableHlo.held (c : Thread nD τ) (Pipeline.ucRefs τ sig) (mid m c) ∗ rides c)
  X _ := BI.emp
  Y _ := BI.emp
  Z c := Pipeline.unscopedRest (Ix := Unit) (Name := ℕ) (U := UR sig nD τ) (Lvl := ℕ) spec0 c (ent0 m c)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) (launch0).win (launch0).arr_whole c
      ((pdats m 0 c).share_full fun _ => rfl) (ent0 m c) fun _ => rfl
    iintro ⟨⟨Hub, HO⟩, -, -⟩
    ihave H := (show unscopedBufs c (fun b : Ref sig .tc => V1 m c b) ⊢ _ from hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rides Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none]
    iintro Hr
    isplitr; · iempintro
    isplitr; · iempintro
    iapply (show (pdats m 0 c).Φ (Fin.last cfg0.N) ⊢ Pipeline.scopedRest spec0 c from Dx.inv_last (ent0 m) c)
    iexact Hr
  hexit c := by
    rw [← Pipeline.unscopedBufs_held (Ix := Unit) (Name := ℕ) (U := UR sig nD τ) (Lvl := ℕ) c (mid m c)]
    have hjoin := Pipeline.unscopedBufs_of_arrays (p := 0) (pcfgs (F := F)) adm (Ix := Unit) (Name := ℕ) (U := UR sig nD τ) (Lvl := ℕ) (launch0).win (launch0).arr_whole c
      (pdats m) ((pdats m 0 c).share_full fun _ => rfl) (ent0 m c) (fun b => mid m c b) ((pdats m 0 c).arrAt · cfg0.N)
      (arrays0 m c)
      (fun b hb => mid_of m c b fun h => hb (by
        simp only [List.mem_cons, List.not_mem_nil, _root_.or_false] at h
        rcases h with rfl | rfl | rfl | rfl
        exacts [Finset.mem_image.mpr ⟨9, Finset.mem_univ _, rfl⟩,
          Finset.mem_image.mpr ⟨10, Finset.mem_univ _, rfl⟩,
          Finset.mem_image.mpr ⟨11, Finset.mem_univ _, rfl⟩,
          Finset.mem_image.mpr ⟨12, Finset.mem_univ _, rfl⟩]))
    iintro ⟨Ha, HO, -, Hrest⟩
    imodintro
    isplitl [Ha Hrest]
    · iapply hjoin; isplitl [Ha] <;> iassumption
    unfold rides Pipeline.Dat.owesAt Pipeline.owesWithin
    icases HO with ⟨%W, -, HO⟩; iexists W; iexact HO

-- unification of the launch lemmas at the pinned configuration unfolds plain definitions in a metavariable's type
set_option backward.isDefEq.respectTransparency.types false in
/-- Region 1 over the thread state "every unscoped buffer at a valuation, and the core owes nothing": entered at the
    valuation before it, left at the valuation after it. -/
def reg1 : Pipeline.RegionSeg (pcfgs (F := F)) adm (pdats m) () defs₀ 𝒱₀ L lv 1 where
  win := (launch1).win.to₀
  block_pos := (launch1).block_pos
  stage_whole := (launch1).stage_whole
  K := PEmpty
  osem k := k.elim
  ho := Pipeline.OwnSemFacts.none _
  hbody c := (Dw.body_obligation (ent1 m) c).loose
  hwaits := Pipeline.hwaits_of_owed_zero _ _ _ _ L lv 1 fun _ _ => rfl
  pre c := iprop(StableHlo.held (c : Thread nD τ) (Pipeline.ucRefs τ sig) (mid m c) ∗ rides c)
  post c := iprop(StableHlo.held (c : Thread nD τ) (Pipeline.ucRefs τ sig) (last m c) ∗ rides c)
  X _ := BI.emp
  Y _ := BI.emp
  Z c := Pipeline.unscopedRest (Ix := Unit) (Name := ℕ) (U := UR sig nD τ) (Lvl := ℕ) spec1 c (ent1 m c)
  hentry c := by
    rw [Pipeline.ownSems0_none, ← Pipeline.unscopedBufs_held (Ix := Unit) (Name := ℕ) (U := UR sig nD τ) (Lvl := ℕ) c (mid m c)]
    have hsplit := Pipeline.arrays_of_unscopedBufs (p := 1) (pcfgs (F := F)) adm (pdats m) (launch1).win (launch1).arr_whole c
      ((pdats m 1 c).share_full fun _ => rfl) (ent1 m c) fun _ => rfl
    iintro ⟨⟨Hub, HO⟩, -, -⟩
    ihave H := (show unscopedBufs c (fun b : Ref sig .tc => mid m c b) ⊢ _ from hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rides Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none]
    iintro Hr
    isplitr; · iempintro
    isplitr; · iempintro
    iapply (show (pdats m 1 c).Φ (Fin.last cfg1.N) ⊢ Pipeline.scopedRest spec1 c from .rfl)
    iexact Hr
  hexit c := by
    rw [← Pipeline.unscopedBufs_held (Ix := Unit) (Name := ℕ) (U := UR sig nD τ) (Lvl := ℕ) c (last m c)]
    have hjoin := Pipeline.unscopedBufs_of_arrays (p := 1) (pcfgs (F := F)) adm (Ix := Unit) (Name := ℕ) (U := UR sig nD τ) (Lvl := ℕ) (launch1).win (launch1).arr_whole c
      (pdats m) ((pdats m 1 c).share_full fun _ => rfl) (ent1 m c) (fun b => last m c b) ((pdats m 1 c).arrAt · cfg1.N)
      (arrays1 m c)
      (fun b hb => last_of m c b fun h => hb (by
        simp only [List.mem_cons, List.not_mem_nil, _root_.or_false] at h
        subst h; exact Finset.mem_image.mpr ⟨2, Finset.mem_univ _, rfl⟩))
    iintro ⟨Ha, HO, -, Hrest⟩
    imodintro
    isplitl [Ha Hrest]
    · iapply hjoin; isplitl [Ha] <;> iassumption
    unfold rides Pipeline.Dat.owesAt Pipeline.owesWithin
    icases HO with ⟨%W, -, HO⟩; iexists W; iexact HO

/-! ## The run -/

set_option backward.isDefEq.respectTransparency.types false in
set_option maxHeartbeats 1000000 in
/-- From any memory with zero counters every weakly fair execution of @main terminates, and every final state has every
    unscoped buffer at the last valuation and every semaphore counter at zero. -/
theorem run : θ_run defs (onTc (τ := τ) (main (F := F))) ⟨m, fun _ => 0, ρ⟩ (fun r => (∀ c : Dev nD, ∀ b ∈ Pipeline.ucRefs τ sig,
      r.2.mem (c, b) = V4 m (outs m) c b) ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => rides) () (pdats m) (reg0 m) (reg1 m))
    (fun c Q => by
      rewrite [main_chain c, Pipeline.Seg.run_eq_chain,
        show (segs m (outs m) 𝒱₀ L lv (fun _ => rides) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c))
    (Tₙ := fun c => StableHlo.held (c : Thread nD τ) (Pipeline.ucRefs τ sig) (V4 m (outs m) c))
    (hch := fun c => ⟨.rfl, .rfl, .rfl, ?_, sep_mono .rfl .rfl⟩)
    (hinit := ?_) (QY := fun c s => ∀ b ∈ Pipeline.ucRefs τ sig, s.mem (c, b) = V4 m (outs m) c b)
    (hfin := fun c s' => ?_) (hQ := fun _ h hz => ⟨h, funext fun g => hz g (.inr (regions_no_unscoped g.2))⟩)
  · show iprop(StableHlo.held (c : Thread nD τ) (Pipeline.ucRefs τ sig) (last m c) ∗ rides c) ⊢ iprop(StableHlo.held (c : Thread nD τ) (Pipeline.ucRefs τ sig) (V3 m (outs m) c) ∗ rides c)
    rw [V3_eq]
  · refine Pipeline.initEach L lv fun c => ?_
    rw [Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    unfold rides
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro; exact h
    iexact HSI

/-- A TensorCore buffer outside the kernels' scopes is among the buffers that the run reads at its end. -/
theorem at_end (r : Ref sig .tc) (h : ¬(Proc.devRef (τ := τ) .tc r).isScoped) : Proc.devRef (τ := τ) .tc r ∈ Pipeline.ucRefs τ sig :=
  Finset.mem_filter.mpr ⟨StableHlo.devRef_mem_tcRefs r, h⟩

/-- The frame: every execution terminates, the arguments end as launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c (Proc.devRef .tc main_arg0) (Finset.mem_filter.mpr ⟨StableHlo.devRef_mem_tcRefs main_arg0, by decide⟩)).trans (V4_main_arg0 m (outs m) c),
      (h.1 c (Proc.devRef .tc main_arg1) (Finset.mem_filter.mpr ⟨StableHlo.devRef_mem_tcRefs main_arg1, by decide⟩)).trans (V4_main_arg1 m (outs m) c),
      (h.1 c (Proc.devRef .tc main_arg2) (Finset.mem_filter.mpr ⟨StableHlo.devRef_mem_tcRefs main_arg2, by decide⟩)).trans (V4_main_arg2 m (outs m) c),
      (h.1 c (Proc.devRef .tc main_arg3) (Finset.mem_filter.mpr ⟨StableHlo.devRef_mem_tcRefs main_arg3, by decide⟩)).trans (V4_main_arg3 m (outs m) c),
      (h.1 c (Proc.devRef .tc main_arg4) (Finset.mem_filter.mpr ⟨StableHlo.devRef_mem_tcRefs main_arg4, by decide⟩)).trans (V4_main_arg4 m (outs m) c),
      (h.1 c (Proc.devRef .tc main_arg5) (Finset.mem_filter.mpr ⟨StableHlo.devRef_mem_tcRefs main_arg5, by decide⟩)).trans (V4_main_arg5 m (outs m) c),
      (h.1 c (Proc.devRef .tc main_arg6) (Finset.mem_filter.mpr ⟨StableHlo.devRef_mem_tcRefs main_arg6, by decide⟩)).trans (V4_main_arg6 m (outs m) c),
      (h.1 c (Proc.devRef .tc main_arg7) (Finset.mem_filter.mpr ⟨StableHlo.devRef_mem_tcRefs main_arg7, by decide⟩)).trans (V4_main_arg7 m (outs m) c),
      (h.1 c (Proc.devRef .tc main_arg8) (Finset.mem_filter.mpr ⟨StableHlo.devRef_mem_tcRefs main_arg8, by decide⟩)).trans (V4_main_arg8 m (outs m) c)⟩, h.2⟩) (run m ρ)

end Cert.KernelIdeal.Whole

end
-- ==== Proof.Rounded.DxBody.lean ====
/-
What one run of the first kernel's body leaves in its buffers, as terms of what they held: the first point and a later one.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body fills the weight scratch: the first grid coordinate is zero. -/
abbrev isFirst (i : grid0.Coords) : Prop := (Scalar.cmpi .ne (Scalar.extui (Scalar.cmpi .eq (BitVec.ofNat 32 (i 0).val) 0#32)) 0#32) = 1#1

/-- The condition holds at the grid's first point alone. -/
theorem isFirst_iff : ∀ t : Fin cfg0.N, isFirst (grid0.coords t) ↔ t.val = 0 :=
  (by decide +kernel : ∀ t : Fin grid0.N, isFirst (grid0.coords t) ↔ t.val = 0)

/-- The eight row blocks that the first point stores into the weight scratch, the newest first: each is the block of
    the codes widened and scaled column by column. -/
def pieces (x7 : Vec F S2048x4096 .fp8e4m3) (x8 : Vec F S1x4096 .f32) : List (View.Piece (Elt F) S2048x4096 .bf16) :=
  [⟨Rect.unit ![1792, 0] S256x4096.size inb_S2048x4096_S256x4096_1792_0, k0_pay13 (k0_pay4 x8) (View.ld x7 (Rect.unit ![1792, 0] S256x4096.size inb_S2048x4096_S256x4096_1792_0))⟩,
    ⟨Rect.unit ![1536, 0] S256x4096.size inb_S2048x4096_S256x4096_1536_0, k0_pay12 (k0_pay4 x8) (View.ld x7 (Rect.unit ![1536, 0] S256x4096.size inb_S2048x4096_S256x4096_1536_0))⟩,
    ⟨Rect.unit ![1280, 0] S256x4096.size inb_S2048x4096_S256x4096_1280_0, k0_pay11 (k0_pay4 x8) (View.ld x7 (Rect.unit ![1280, 0] S256x4096.size inb_S2048x4096_S256x4096_1280_0))⟩,
    ⟨Rect.unit ![1024, 0] S256x4096.size inb_S2048x4096_S256x4096_1024_0, k0_pay10 (k0_pay9 x8 (View.ld x7 (Rect.unit ![1024, 0] S256x4096.size inb_S2048x4096_S256x4096_1024_0)))⟩,
    ⟨Rect.unit ![768, 0] S256x4096.size inb_S2048x4096_S256x4096_768_0, k0_pay8 x8 (View.ld x7 (Rect.unit ![768, 0] S256x4096.size inb_S2048x4096_S256x4096_768_0))⟩,
    ⟨Rect.unit ![512, 0] S256x4096.size inb_S2048x4096_S256x4096_512_0, k0_pay7 x8 (View.ld x7 (Rect.unit ![512, 0] S256x4096.size inb_S2048x4096_S256x4096_512_0))⟩,
    ⟨Rect.unit ![256, 0] S256x4096.size inb_S2048x4096_S256x4096_256_0, k0_pay6 x8 (View.ld x7 (Rect.unit ![256, 0] S256x4096.size inb_S2048x4096_S256x4096_256_0))⟩,
    ⟨Rect.unit ![0, 0] S256x4096.size inb_S2048x4096_S256x4096_0_0, k0_pay5 x8 (View.ld x7 (Rect.unit ![0, 0] S256x4096.size inb_S2048x4096_S256x4096_0_0))⟩]

/-- Every entry of the weight scratch lies in one of the eight row blocks. -/
theorem pieces_cover (x7 : Vec F S2048x4096 .fp8e4m3) (x8 : Vec F S1x4096 .f32) (y : S2048x4096.Idx) :
    ∃ p ∈ pieces x7 x8, y ∈ p.1.set := View.cover_of_tiledL (pieces x7 x8) S256x4096.size (by sl_kernel_rfl) y

/-- What the first point leaves in the weight scratch: the widened weights. -/
def fill (x7 : Vec F S2048x4096 .fp8e4m3) (x8 : Vec F S1x4096 .f32) : Vec F S2048x4096 .bf16 := View.canon (pieces x7 x8)

/-- The block of dx that a point writes, over the point's input blocks and the widened weights `w`. -/
def dxB (x0 : Vec F S256x4096 .bf16) (x1 : Vec F S256x2048 .fp8e4m3) (x2 x3 x4 : Vec F S256x1 .f32) (x5 : Vec F S1x2048 .f32)
    (w : Vec F S2048x4096 .bf16) : Vec F S256x2048 .bf16 := k0_pay3 (k0_pay16 x0 w) (k0_pay17 x1 x2 x4 x3) x5 x3

/-- The block of the layer norm's output that a point writes. -/
def xhB (x1 : Vec F S256x2048 .fp8e4m3) (x2 x3 x4 : Vec F S256x1 .f32) (x5 x6 : Vec F S1x2048 .f32) : Vec F S256x2048 .bf16 :=
  k0_pay18 x1 x2 x4 x3 x5 x6

/-- The running sum of dgamma after a point that found `acc`. -/
def dgB (x0 : Vec F S256x4096 .bf16) (x1 : Vec F S256x2048 .fp8e4m3) (x2 x3 x4 : Vec F S256x1 .f32)
    (w : Vec F S2048x4096 .bf16) (acc : Vec F S1x2048 .f32) : Vec F S1x2048 .f32 :=
  k0_pay1 (k0_pay16 x0 w) (k0_pay17 x1 x2 x4 x3) (k0_pay19 acc)

/-- The running sum of dbeta after a point that found `acc`. -/
def dbB (x0 : Vec F S256x4096 .bf16) (w : Vec F S2048x4096 .bf16) (acc : Vec F S1x2048 .f32) : Vec F S1x2048 .f32 :=
  k0_pay2 (k0_pay16 x0 w) acc

/-- The offsets of a whole-array access are the zero function. -/
theorem zero2 : (![0, 0] : Fin 2 → ℕ) = fun _ => 0 := by decide

section Whole

variable {Val : EltTy → Type} {sig : RefSig} {κ : Kind} {sp : Space} {e : EltTy} {a b : ℕ}

/-- A load of a whole matrix reads the view's contents. -/
theorem readAt_whole2 (v : View sig κ sp ⟨2, ![a, b]⟩ e) (inb : ∀ k, (![0, 0] : Fin 2 → ℕ) k + (![a, b] : Fin 2 → ℕ) k ≤ (⟨2, ![a, b]⟩ : Shape).size k)
    (f : v.ty.Contents Val) : v.readAt Val (Rect.unit (s := ⟨2, ![a, b]⟩) ![0, 0] ![a, b] inb).toLoadRect f = v.read Val f :=
  View.readAt_full v f inb

/-- A load of a whole matrix after a store of the whole matrix reads what was stored. -/
theorem readCov_whole2 [∀ e, Nonempty (Val e)] (v : View sig κ sp ⟨2, ![a, b]⟩ e) (inb inb' : ∀ k, (![0, 0] : Fin 2 → ℕ) k + (![a, b] : Fin 2 → ℕ) k ≤ (⟨2, ![a, b]⟩ : Shape).size k)
    (w : (⟨2, ![a, b]⟩ : Shape).Idx → Val e) (L : List (View.Piece Val ⟨2, ![a, b]⟩ e)) :
    v.readCov ((⟨Rect.unit (s := ⟨2, ![a, b]⟩) ![0, 0] ![a, b] inb', w⟩ : View.Piece Val ⟨2, ![a, b]⟩ e) :: L) (Rect.unit (s := ⟨2, ![a, b]⟩) ![0, 0] ![a, b] inb).toLoadRect = w :=
  View.readCov_full v inb inb' w L

/-- The whole-matrix part of a matrix is the matrix. -/
theorem ld_whole2 (X : (⟨2, ![a, b]⟩ : Shape).Idx → Val e) (inb : ∀ k, (![0, 0] : Fin 2 → ℕ) k + (![a, b] : Fin 2 → ℕ) k ≤ (⟨2, ![a, b]⟩ : Shape).size k) :
    View.ld X (Rect.unit (s := ⟨2, ![a, b]⟩) ![0, 0] ![a, b] inb) = X := View.ld_unit_zero zero2 inb X

end Whole

set_option maxHeartbeats 2000000 in
/-- The body at the first point: whatever the output buffers and the scratch held, it fills the scratch, clears the two sums and leaves the blocks named above. -/
theorem runA (c : Dev nD) (i : grid0.Coords) (arg1 : Memref sig .tc .vmem S256x4096 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4096 .fp8e4m3) (harg8 : arg8.IsWhole) (arg9 : Memref sig .tc .vmem S1x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S2048x4096 .bf16) (harg14 : arg14.IsWhole) (hc0 : isFirst i)
    (x0 : Vec F S256x4096 .bf16) (x1 : Vec F S256x2048 .fp8e4m3) (x2 : Vec F S256x1 .f32) (x3 : Vec F S256x1 .f32) (x4 : Vec F S256x1 .f32) (x5 : Vec F S1x2048 .f32) (x6 : Vec F S1x2048 .f32) (x7 : Vec F S2048x4096 .fp8e4m3) (x8 : Vec F S1x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxB x0 x1 x2 x3 x4 x5 (fill x7 x8)) ∗ owns (c : Thread nD τ) arg11 fullShare (xhB x1 x2 x3 x4 x5 x6)
            ∗ owns (c : Thread nD τ) arg12 fullShare (dgB x0 x1 x2 x3 x4 (fill x7 x8) k0_pay14) ∗ owns (c : Thread nD τ) arg13 fullShare (dbB x0 (fill x7 x8) k0_pay15) ∗ owns (c : Thread nD τ) arg14 fullShare (fill x7 x8)) -∗ K ⟨⟩))
      ⊢ wp frame (wpE (defs₀ (F := F)) Variants.none c none) E (cc0_ln_qkv_dx i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_ln_qkv_dx_eq_skeleton]; unfold cc0_ln_qkv_dx_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    have hfill : runA.sl.HS0_8 c arg8 harg8 arg9 harg9 x7 x8 = pieces x7 x8 := by
      delta runA.sl.HS0_8 runA.sl.r runA.sl.r_1
      simp only [View.readAt_eq_ld, ld_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
      rfl
    have hv5 : runA.sl.v5 c arg8 harg8 arg9 harg9 arg14 x7 x8 = fill x7 x8 := by
      delta runA.sl.v5; rw [hfill, View.readCov_eq_canon_ld _ _ _ (pieces_cover x7 x8), View.ld_unit_zero zero2]; rfl
    isplitl [H9]
    · iexists _; isplitr
      swap; · iexact H9
      ipureintro
      refine (View.read_writes_full _ _ _ _ _).trans ?_
      delta dxB runA.sl.r_2 runA.sl.r_3
      simp only [hv5, readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H10]
    · iexists _; isplitr
      swap; · iexact H10
      ipureintro
      refine (View.read_writes_full _ _ _ _ _).trans ?_
      delta xhB
      simp only [hv5, readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H11]
    · iexists _; isplitr
      swap; · iexact H11
      ipureintro
      refine (View.read_writes_full _ _ _ _ _).trans ?_
      delta dgB runA.sl.r_2 runA.sl.r_3 runA.sl.r_4 runA.sl.v32 runA.sl.H11_1
      simp only [hv5, readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H12]
    · iexists _; isplitr
      swap; · iexact H12
      ipureintro
      refine (View.read_writes_full _ _ _ _ _).trans ?_
      delta dbB runA.sl.r_2 runA.sl.v39 runA.sl.H12_1
      simp only [hv5, readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    iexists _; isplitr
    swap; · iexact HS0
    ipureintro; rw [hfill]; exact View.read_writes_eq_canon _ _ _ (pieces_cover x7 x8)

set_option maxHeartbeats 2000000 in
/-- The body at a later point: the scratch holds the widened weights `xs0` and keeps them, and the two sums go on from what they held. -/
theorem runB (c : Dev nD) (i : grid0.Coords) (arg1 : Memref sig .tc .vmem S256x4096 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4096 .fp8e4m3) (harg8 : arg8.IsWhole) (arg9 : Memref sig .tc .vmem S1x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S2048x4096 .bf16) (harg14 : arg14.IsWhole) (hc0 : ¬isFirst i)
    (x0 : Vec F S256x4096 .bf16) (x1 : Vec F S256x2048 .fp8e4m3) (x2 : Vec F S256x1 .f32) (x3 : Vec F S256x1 .f32) (x4 : Vec F S256x1 .f32) (x5 : Vec F S1x2048 .f32) (x6 : Vec F S1x2048 .f32) (x7 : Vec F S2048x4096 .fp8e4m3) (x8 : Vec F S1x4096 .f32) (xo11 xo12 : Vec F S1x2048 .f32) (xs0 : Vec F S2048x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xo11 ∗ owns (c : Thread nD τ) arg13 fullShare xo12 ∗ owns (c : Thread nD τ) arg14 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxB x0 x1 x2 x3 x4 x5 xs0) ∗ owns (c : Thread nD τ) arg11 fullShare (xhB x1 x2 x3 x4 x5 x6)
            ∗ owns (c : Thread nD τ) arg12 fullShare (dgB x0 x1 x2 x3 x4 xs0 xo11) ∗ owns (c : Thread nD τ) arg13 fullShare (dbB x0 xs0 xo12) ∗ owns (c : Thread nD τ) arg14 fullShare xs0) -∗ K ⟨⟩))
      ⊢ wp frame (wpE (defs₀ (F := F)) Variants.none c none) E (cc0_ln_qkv_dx i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_ln_qkv_dx_eq_skeleton]; unfold cc0_ln_qkv_dx_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hf11; obtain rfl := harg13.eq_unread hf12; obtain rfl := harg14.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr
      swap; · iexact H9
      ipureintro
      refine (View.read_writes_full _ _ _ _ _).trans ?_
      delta dxB runB.sl.r runB.sl.r_1
      simp only [readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H10]
    · iexists _; isplitr
      swap; · iexact H10
      ipureintro
      refine (View.read_writes_full _ _ _ _ _).trans ?_
      delta xhB
      simp only [readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H11]
    · iexists _; isplitr
      swap; · iexact H11
      ipureintro
      refine (View.read_writes_full _ _ _ _ _).trans ?_
      delta dgB runB.sl.r runB.sl.r_1 runB.sl.r_2
      simp only [readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    isplitl [H12]
    · iexists _; isplitr
      swap; · iexact H12
      ipureintro
      refine (View.read_writes_full _ _ _ _ _).trans ?_
      delta dbB runB.sl.r
      simp only [readAt_whole2, readCov_whole2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    iexists _; isplitr; · ipureintro; exact harg14.read_unread _
    iexact HS0

end Cert.Kernel.Dx

end
-- ==== Proof.Rounded.DxData.lean ====
/-
The proof data of the first kernel's pipeline, over whatever its arrays hold when it is entered, and the proof that the body keeps to them.
-/
module

public import proofs.«01_k».proof.Proof.Rounded.DxBody

@[expose] public section

set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The widened weights that the first point leaves in the scratch, read off the codes and scales as the region finds them. -/
def wts (c : Dev nD) : Vec F S2048x4096 .bf16 := fill (iblk V c 7 t0_0) (iblk V c 8 t0_0)

/-- The running sum of dgamma after point `n`. -/
def dgAt (c : Dev nD) : (n : ℕ) → n < cfg0.N → Vec F S1x2048 .f32
  | 0, h => dgB (iblk V c 0 ⟨0, h⟩) (iblk V c 1 ⟨0, h⟩) (iblk V c 2 ⟨0, h⟩) (iblk V c 3 ⟨0, h⟩) (iblk V c 4 ⟨0, h⟩) (wts V c) k0_pay14
  | n + 1, h => dgB (iblk V c 0 ⟨n + 1, h⟩) (iblk V c 1 ⟨n + 1, h⟩) (iblk V c 2 ⟨n + 1, h⟩) (iblk V c 3 ⟨n + 1, h⟩) (iblk V c 4 ⟨n + 1, h⟩) (wts V c)
      (dgAt c n (Nat.lt_of_succ_lt h))

/-- The running sum of dbeta after point `n`. -/
def dbAt (c : Dev nD) : (n : ℕ) → n < cfg0.N → Vec F S1x2048 .f32
  | 0, h => dbB (iblk V c 0 ⟨0, h⟩) (wts V c) k0_pay15
  | n + 1, h => dbB (iblk V c 0 ⟨n + 1, h⟩) (wts V c) (dbAt c n (Nat.lt_of_succ_lt h))

/-- The weight scratch as a memref. -/
abbrev scM : Memref sig .tc .vmem S2048x4096 .bf16 := Memref.whole cc0_scratch0

/-- The other scoped buffers that this kernel does not stage, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped buffers that this kernel does not stage: the weight scratch and the others. -/
theorem rest_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ others c) := by
  unfold others; rw [scopedRest0_eq]; simp only [scM, owns_whole]; try rfl

/-- The invariant before point `n`: at first the scratch holds anything; afterwards it holds the widened weights. -/
def inv (c : Dev nD) : (n : ℕ) → n ≤ cfg0.N → sProp 𝕄
  | 0, _ => Pipeline.scopedRest spec0 c
  | _ + 1, _ => iprop(owns (c : Thread nD τ) scM fullShare (wts V c) ∗ others c)

/-- Before the first point the invariant is the buffers not staged, at anything. -/
theorem inv_zero (c : Dev nD) (n : ℕ) (h : n ≤ cfg0.N) (hz : n = 0) : inv V c n h = Pipeline.scopedRest spec0 c := by
  subst hz; rfl

/-- Before a later point the invariant has the widened weights in the scratch. -/
theorem inv_pos (c : Dev nD) (n : ℕ) (h : n ≤ cfg0.N) (hz : n ≠ 0) :
    inv V c n h = iprop(owns (c : Thread nD τ) scM fullShare (wts V c) ∗ others c) := by
  cases n with
  | zero => exact absurd rfl hz
  | succ n => rfl

/-- The proof data of the first kernel's pipeline on core `c`: the arrays as the region finds them; after the body at
    point `t` each input's buffer at its block and each output's at the terms above; the invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => dxB (iblk V c 0 t) (iblk V c 1 t) (iblk V c 2 t) (iblk V c 3 t) (iblk V c 4 t) (iblk V c 5 t) (wts V c)
    | ⟨10, _⟩ => xhB (iblk V c 1 t) (iblk V c 2 t) (iblk V c 3 t) (iblk V c 4 t) (iblk V c 5 t) (iblk V c 6 t)
    | ⟨11, _⟩ => dgAt V c t.val t.isLt
    | ⟨12, _⟩ => dbAt V c t.val t.isLt
  Φ t := inv V c t.val (Nat.le_of_lt_succ t.isLt)
  q _ := fullShare
  owed _ := 0

/-- Each window's array is what the region finds. -/
theorem A_eq (c : Dev nD) (w : Fin cfg0.W) : (dat V c).A w = V c (Pipeline.arrRef spec0 w) := by dsimp only [dat]

/-- What the body leaves in the buffer of the upstream gradient. -/
theorem after0 (c : Dev nD) (t : Fin cfg0.N) : (dat V c).after 0 t = iblk V c 0 t := by dsimp only [dat]
/-- What the body leaves in the buffer of the codes. -/
theorem after1 (c : Dev nD) (t : Fin cfg0.N) : (dat V c).after 1 t = iblk V c 1 t := by dsimp only [dat]
/-- What the body leaves in the buffer of the row scales. -/
theorem after2 (c : Dev nD) (t : Fin cfg0.N) : (dat V c).after 2 t = iblk V c 2 t := by dsimp only [dat]
/-- What the body leaves in the buffer of the reciprocal deviations. -/
theorem after3 (c : Dev nD) (t : Fin cfg0.N) : (dat V c).after 3 t = iblk V c 3 t := by dsimp only [dat]
/-- What the body leaves in the buffer of the means. -/
theorem after4 (c : Dev nD) (t : Fin cfg0.N) : (dat V c).after 4 t = iblk V c 4 t := by dsimp only [dat]
/-- What the body leaves in the buffer of the gains. -/
theorem after5 (c : Dev nD) (t : Fin cfg0.N) : (dat V c).after 5 t = iblk V c 5 t := by dsimp only [dat]
/-- What the body leaves in the buffer of the offsets. -/
theorem after6 (c : Dev nD) (t : Fin cfg0.N) : (dat V c).after 6 t = iblk V c 6 t := by dsimp only [dat]
/-- What the body leaves in the buffer of the weight codes. -/
theorem after7 (c : Dev nD) (t : Fin cfg0.N) : (dat V c).after 7 t = iblk V c 7 t := by dsimp only [dat]
/-- What the body leaves in the buffer of the weight scales. -/
theorem after8 (c : Dev nD) (t : Fin cfg0.N) : (dat V c).after 8 t = iblk V c 8 t := by dsimp only [dat]
/-- What the body leaves in the buffer of the input's gradient. -/
theorem after9 (c : Dev nD) (t : Fin cfg0.N) : (dat V c).after 9 t = dxB (iblk V c 0 t) (iblk V c 1 t) (iblk V c 2 t) (iblk V c 3 t) (iblk V c 4 t) (iblk V c 5 t) (wts V c) := by dsimp only [dat]
/-- What the body leaves in the buffer of the layer norm's output. -/
theorem after10 (c : Dev nD) (t : Fin cfg0.N) : (dat V c).after 10 t = xhB (iblk V c 1 t) (iblk V c 2 t) (iblk V c 3 t) (iblk V c 4 t) (iblk V c 5 t) (iblk V c 6 t) := by dsimp only [dat]
/-- What the body leaves in the buffer of dgamma. -/
theorem after11 (c : Dev nD) (t : Fin cfg0.N) : (dat V c).after 11 t = dgAt V c t.val t.isLt := by dsimp only [dat]
/-- What the body leaves in the buffer of dbeta. -/
theorem after12 (c : Dev nD) (t : Fin cfg0.N) : (dat V c).after 12 t = dbAt V c t.val t.isLt := by dsimp only [dat]

/-! Each input's staging buffer holds its block when the body runs. -/

/-- When the body runs, the buffer of the upstream gradient holds its block. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- When the body runs, the buffer of the codes holds its block. -/
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- When the body runs, the buffer of the row scales holds its block. -/
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- When the body runs, the buffer of the reciprocal deviations holds its block. -/
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- When the body runs, the buffer of the means holds its block. -/
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- When the body runs, the buffer of the gains holds its block. -/
theorem before5 (c : Dev nD) (t : Fin cfg0.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- When the body runs, the buffer of the offsets holds its block. -/
theorem before6 (c : Dev nD) (t : Fin cfg0.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- When the body runs, the buffer of the weight codes holds its block. -/
theorem before7 (c : Dev nD) (t : Fin cfg0.N) (d) : (dat V c).before 7 t d = iblk V c 7 t :=
  ((dat V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
/-- When the body runs, the buffer of the weight scales holds its block. -/
theorem before8 (c : Dev nD) (t : Fin cfg0.N) (d) : (dat V c).before 8 t d = iblk V c 8 t :=
  ((dat V c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
/-- At a later point the dgamma buffer holds what the point before left. -/
theorem before11 (c : Dev nD) (t : Fin cfg0.N) (h0 : ¬t.val = 0) (d) :
    (dat V c).before 11 t d = dgAt V c (t.val - 1) (Nat.lt_of_le_of_lt (Nat.sub_le _ _) t.isLt) := by
  have hN : t.val < 4 := lt_of_lt_of_eq t.isLt (show cfg0.N = 4 from N_0)
  rw [Dat.before_out_kept _ 11 rfl t (by omega) (Bool.eq_false_iff.mpr fun h => by have := (flush0_11 _).mp h; dsimp only at this; omega)
    (fun _ => rfl) (fun _ _ => rfl)]
  dsimp only [dat]
/-- At a later point the dbeta buffer holds what the point before left. -/
theorem before12 (c : Dev nD) (t : Fin cfg0.N) (h0 : ¬t.val = 0) (d) :
    (dat V c).before 12 t d = dbAt V c (t.val - 1) (Nat.lt_of_le_of_lt (Nat.sub_le _ _) t.isLt) := by
  have hN : t.val < 4 := lt_of_lt_of_eq t.isLt (show cfg0.N = 4 from N_0)
  rw [Dat.before_out_kept _ 12 rfl t (by omega) (Bool.eq_false_iff.mpr fun h => by have := (flush0_12 _).mp h; dsimp only at this; omega)
    (fun _ => rfl) (fun _ _ => rfl)]
  dsimp only [dat]

/-- The first point starts the sum of dgamma from zero. -/
theorem dgAt_first (c : Dev nD) (t : Fin cfg0.N) (h0 : t.val = 0) :
    dgAt V c t.val t.isLt = dgB (iblk V c 0 t) (iblk V c 1 t) (iblk V c 2 t) (iblk V c 3 t) (iblk V c 4 t) (wts V c) k0_pay14 := by
  obtain ⟨n, hn⟩ := t; dsimp only at h0; subst h0; rfl
/-- A later point adds its block onto the sum of dgamma. -/
theorem dgAt_later (c : Dev nD) (t : Fin cfg0.N) (h0 : ¬t.val = 0) :
    dgAt V c t.val t.isLt = dgB (iblk V c 0 t) (iblk V c 1 t) (iblk V c 2 t) (iblk V c 3 t) (iblk V c 4 t) (wts V c)
      (dgAt V c (t.val - 1) (Nat.lt_of_le_of_lt (Nat.sub_le _ _) t.isLt)) := by
  obtain ⟨n, hn⟩ := t
  cases n with
  | zero => exact absurd rfl h0
  | succ n => rfl
/-- The first point starts the sum of dbeta from zero. -/
theorem dbAt_first (c : Dev nD) (t : Fin cfg0.N) (h0 : t.val = 0) : dbAt V c t.val t.isLt = dbB (iblk V c 0 t) (wts V c) k0_pay15 := by
  obtain ⟨n, hn⟩ := t; dsimp only at h0; subst h0; rfl
/-- A later point adds its block onto the sum of dbeta. -/
theorem dbAt_later (c : Dev nD) (t : Fin cfg0.N) (h0 : ¬t.val = 0) :
    dbAt V c t.val t.isLt = dbB (iblk V c 0 t) (wts V c) (dbAt V c (t.val - 1) (Nat.lt_of_le_of_lt (Nat.sub_le _ _) t.isLt)) := by
  obtain ⟨n, hn⟩ := t
  cases n with
  | zero => exact absurd rfl h0
  | succ n => rfl
/-- At the first point the widened weights are those of the blocks that this point reads. -/
theorem wts_first (c : Dev nD) (t : Fin cfg0.N) (h0 : t.val = 0) : wts V c = fill (iblk V c 7 t) (iblk V c 8 t) := by
  obtain ⟨n, hn⟩ := t; dsimp only at h0; subst h0; rfl

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t))

set_option maxHeartbeats 1000000 in
/-- The body at any point meets its obligation: the first point fills the scratch, the later ones find it filled. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).owesAt () t.succ = (dat V c).owesAt () t.castSucc from rfl,
    after0, after1, after2, after3, after4, after5, after6, after7, after8, after9, after10, after11, after12]
  rw [show (dat V c).Φ t.succ = inv V c (t.val + 1) t.isLt from rfl, inv_pos V c _ _ (Nat.succ_ne_zero _),
    show (dat V c).Φ t.castSucc = inv V c t.val (Nat.le_of_lt t.isLt) from rfl]
  by_cases h0 : t.val = 0
  · rw [inv_zero V c _ _ h0, rest_eq, dgAt_first V c t h0, dbAt_first V c t h0, wts_first V c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) _ _ _ _ _ _ _ _ _ _ _ _ _ _ _ _ _ _ _ _ _ _ _ _ _ _ _ _ ((isFirst_iff t).mpr h0) (iblk V c 0 t) (iblk V c 1 t) (iblk V c 2 t) (iblk V c 3 t) (iblk V c 4 t) (iblk V c 5 t) (iblk V c 6 t) (iblk V c 7 t) (iblk V c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, H8, H9, H10, H11, H12, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [inv_pos V c _ _ h0, dgAt_later V c t h0, dbAt_later V c t h0]
    simp only [before11 V c t h0, before12 V c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runB c (grid0.coords t) _ _ _ _ _ _ _ _ _ _ _ _ _ _ _ _ _ _ _ _ _ _ _ _ _ _ _ _ (fun h => h0 ((isFirst_iff t).mp h)) (iblk V c 0 t) (iblk V c 1 t) (iblk V c 2 t) (iblk V c 3 t) (iblk V c 4 t) (iblk V c 5 t) (iblk V c 6 t) (iblk V c 7 t) (iblk V c 8 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [HS0]; · iexact HS0
    iintro ⟨H0, H1, H2, H3, H4, H5, H6, H7, H8, H9, H10, H11, H12, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- After the last point the invariant gives the scratch back at some contents. -/
theorem inv_last (c : Dev nD) : (dat V c).Φ (Fin.last cfg0.N) ⊢ (Pipeline.scopedRest spec0 c : sProp 𝕄) := by
  rw [show (dat V c).Φ (Fin.last cfg0.N) = inv V c cfg0.N (Nat.le_refl _) from rfl,
    inv_pos V c _ _ (by have : cfg0.N = 4 := N_0; omega), rest_eq]
  iintro ⟨HS0, Hg⟩
  isplitl [HS0]
  · iexists _; iexact HS0
  iexact Hg

end Cert.Kernel.Dx

end
-- ==== Proof.Rounded.DwData.lean ====
/-
The second kernel: its body, the proof data of its pipeline over whatever its arrays hold when it is entered, and the proof that the body keeps to them.
-/
module

public import proofs.«01_k».proof.Proof.Rounded.DxBody

@[expose] public section

set_option maxRecDepth 16384

noncomputable section

namespace Cert.Kernel.Dw

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of dW that a point writes. -/
def dwB (x0 : Vec F S1024x2048 .bf16) (x1 : Vec F S1024x512 .bf16) : Vec F S2048x512 .f32 := k1_pay1 x0 x1

set_option maxHeartbeats 1000000 in
/-- The body on whole staging buffers: it leaves the inputs as they were and the output at the block above. -/
theorem run (c : Dev nD) (E : Set ℕ) (i : grid1.Coords) (arg1 : Memref sig .tc .vmem S1024x2048 .bf16) (harg1 : arg1.IsWhole) (arg2 : Memref sig .tc .vmem S1024x512 .bf16) (harg2 : arg2.IsWhole) (arg3 : Memref sig .tc .vmem S2048x512 .f32) (harg3 : arg3.IsWhole)
    (x0 : Vec F S1024x2048 .bf16) (x1 : Vec F S1024x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (dwB x0 x1)) -∗ K ⟨⟩))
      ⊢ wp frame (wpE (defs₀ (F := F)) Variants.none c none) E (cc1_ln_qkv_dw i arg1 harg1 arg2 harg2 arg3 harg3) K := by
  simp only [cc1_ln_qkv_dw_eq_skeleton]; unfold cc1_ln_qkv_dw_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_full _ _ _ _ _).trans ?_
  delta dwB
  simp only [Dx.readAt_whole2]

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second kernel's pipeline on core `c`: the arrays as the region finds them; after the body each
    input's buffer at its block and the output's at the block of dW; the invariant is the buffers not staged; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => dwB (iblk V c 0 t) (iblk V c 1 t)
  Φ _ := Pipeline.scopedRest spec1 c
  q _ := fullShare
  owed _ := 0

/-- Each window's array is what the region finds. -/
theorem A_eq (c : Dev nD) (w : Fin cfg1.W) : (dat V c).A w = V c (Pipeline.arrRef spec1 w) := by dsimp only [dat]

/-- What the body leaves in the buffer of the layer norm's output. -/
theorem after0 (c : Dev nD) (t : Fin cfg1.N) : (dat V c).after 0 t = iblk V c 0 t := by dsimp only [dat]
/-- What the body leaves in the buffer of the upstream gradient. -/
theorem after1 (c : Dev nD) (t : Fin cfg1.N) : (dat V c).after 1 t = iblk V c 1 t := by dsimp only [dat]
/-- What the body leaves in the buffer of dW. -/
theorem after2 (c : Dev nD) (t : Fin cfg1.N) : (dat V c).after 2 t = dwB (iblk V c 0 t) (iblk V c 1 t) := by dsimp only [dat]

/-! Each input's staging buffer holds its block when the body runs. -/

/-- When the body runs, the buffer of the layer norm's output holds its block. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- When the body runs, the buffer of the upstream gradient holds its block. -/
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point meets its obligation. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl, after0, after1, after2]
  iintro ⟨HΦ, Ho, ⟨%d0, H0⟩, ⟨%d1, H1⟩, ⟨%d2, H2⟩⟩
  iapply (run c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

/-- The body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.Kernel.Dw

end
-- ==== Proof.Rounded.Run.lean ====
/-
The whole program: the two regions one after the other between the host's reshapes, and what every buffer holds at the end.
-/
module

public import proofs.«01_k».proof.Proof.Gen.Kernel.Regions
public import proofs.«01_k».proof.Proof.Rounded.DxData
public import proofs.«01_k».proof.Proof.Rounded.DwData
public import Idealize.ShloMosaic.Lib.Pipeline.RegionsLoop

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the regions -/

/-- What the first region finds: the arguments as launched and their reshapes. -/
def ent0 (c : Dev nD) (b : Ref sig .tc) : Buf (Elt F) ((c : Thread nD τ).loc b) := V1 m c b

/-- After the first region: its four arrays at what its write-backs leave. -/
def mid (c : Dev nD) : Valuation τ sig (Elt F) :=
  Function.update (Function.update (Function.update (Function.update (V1 m c) main_v8_0 ((Dx.dat (ent0 m) c).arrAt 9 cfg0.N))
    main_v8_1 ((Dx.dat (ent0 m) c).arrAt 10 cfg0.N)) main_v8_2 ((Dx.dat (ent0 m) c).arrAt 11 cfg0.N)) main_v8_3 ((Dx.dat (ent0 m) c).arrAt 12 cfg0.N)

/-- What the second region finds. -/
def ent1 (c : Dev nD) (b : Ref sig .tc) : Buf (Elt F) ((c : Thread nD τ).loc b) := mid m c b

/-- After the second region: its array at what its write-backs leave. -/
def last (c : Dev nD) : Valuation τ sig (Elt F) := Function.update (mid m c) main_v9 ((Dw.dat (ent1 m) c).arrAt 2 cfg1.N)

/-- The first region changes only its four result arrays. -/
theorem mid_of (c : Dev nD) (r : Ref sig .tc) (h : r ∉ ([main_v8_0, main_v8_1, main_v8_2, main_v8_3] : List (Ref sig .tc))) : mid m c r = V1 m c r := by
  simp only [List.mem_cons, List.not_mem_nil, _root_.or_false, not_or] at h
  obtain ⟨h0, h1, h2, h3⟩ := h
  unfold mid
  rw [Function.update_of_ne (fun e => h3 (Proc.devRef_injective _ e)), Function.update_of_ne (fun e => h2 (Proc.devRef_injective _ e)),
    Function.update_of_ne (fun e => h1 (Proc.devRef_injective _ e)), Function.update_of_ne (fun e => h0 (Proc.devRef_injective _ e))]
/-- After the first region the input's gradient is what its write-backs leave. -/
theorem mid_0 (c : Dev nD) : mid m c main_v8_0 = (Dx.dat (ent0 m) c).arrAt 9 cfg0.N := by
  unfold mid
  rw [Function.update_of_ne (by decide), Function.update_of_ne (by decide), Function.update_of_ne (by decide), Function.update_self]
/-- After the first region the layer norm's output is what its write-backs leave. -/
theorem mid_1 (c : Dev nD) : mid m c main_v8_1 = (Dx.dat (ent0 m) c).arrAt 10 cfg0.N := by
  unfold mid
  rw [Function.update_of_ne (by decide), Function.update_of_ne (by decide), Function.update_self]
/-- After the first region dgamma is what its write-backs leave. -/
theorem mid_2 (c : Dev nD) : mid m c main_v8_2 = (Dx.dat (ent0 m) c).arrAt 11 cfg0.N := by
  unfold mid
  rw [Function.update_of_ne (by decide), Function.update_self]
/-- After the first region dbeta is what its write-backs leave. -/
theorem mid_3 (c : Dev nD) : mid m c main_v8_3 = (Dx.dat (ent0 m) c).arrAt 12 cfg0.N := by
  unfold mid
  rw [Function.update_self]
/-- The second region changes only dW. -/
theorem last_of (c : Dev nD) (r : Ref sig .tc) (h : r ∉ ([main_v9] : List (Ref sig .tc))) : last m c r = mid m c r := by
  simp only [List.mem_cons, List.not_mem_nil, _root_.or_false] at h
  unfold last
  rw [Function.update_of_ne (fun e => h (Proc.devRef_injective _ e))]
/-- After the second region dW is what its write-backs leave. -/
theorem last_9 (c : Dev nD) : last m c main_v9 = (Dw.dat (ent1 m) c).arrAt 2 cfg1.N := by
  unfold last; rw [Function.update_self]

/-- What the regions leave, as the unknowns of the generated valuations. -/
def outs : Outs (F := F) := fun _ r c => last m c r

/-- The generated valuation after the first region is `mid`, -/
theorem V2_eq (c : Dev nD) : V2 m (outs m) c = mid m c := by
  have e0 : outs m 2 main_v8_0 c = (Dx.dat (ent0 m) c).arrAt 9 cfg0.N := (last_of m c _ (by decide)).trans (mid_0 m c)
  have e1 : outs m 2 main_v8_1 c = (Dx.dat (ent0 m) c).arrAt 10 cfg0.N := (last_of m c _ (by decide)).trans (mid_1 m c)
  have e2 : outs m 2 main_v8_2 c = (Dx.dat (ent0 m) c).arrAt 11 cfg0.N := (last_of m c _ (by decide)).trans (mid_2 m c)
  have e3 : outs m 2 main_v8_3 c = (Dx.dat (ent0 m) c).arrAt 12 cfg0.N := (last_of m c _ (by decide)).trans (mid_3 m c)
  unfold V2 mid
  rw [e0, e1, e2, e3]
/-- and the one after the second region is `last`. -/
theorem V3_eq (c : Dev nD) : V3 m (outs m) c = last m c := by
  have e0 : outs m 3 main_v9 c = (Dw.dat (ent1 m) c).arrAt 2 cfg1.N := last_9 m c
  unfold V3 last
  rw [e0, V2_eq]

/-! ## The regions' records -/

/-- Each pipeline's proof data, at what its region finds. -/
def pdats : (p : Fin 2) → (c : Dev nD) → Dat τ (Elt F) Unit ℕ (UR sig nD τ) ℕ (cfgs p) c
  | ⟨0, _⟩ => fun c => Dx.dat (ent0 m) c
  | ⟨1, _⟩ => fun c => Dw.dat (ent1 m) c

/-- The program has no loop that needs a variant. -/
abbrev 𝒱₀ : Variants := Variants.none
/-- No core owes another anything: no level is assigned. -/
abbrev L : GSem nD τ sig → Finset Unit := fun _ => ∅
/-- All waits are on one level. -/
abbrev lv : GSem nD τ sig → Unit → ℕ := fun _ _ => 0

/-- What rides beside the buffers: the core owes nothing. -/
def rides (c : Dev nD) : sProp 𝕄 := iprop(∃ W, owes (c : Thread nD τ) (0 : CellTallies nD τ sig Unit) W)

/-- The first region's arrays after it, as `mid` has them. -/
theorem arrays0 (c : Dev nD) (w : Fin cfg0.W) : (pdats m 0 c).arrAt w cfg0.N = mid m c (Pipeline.arrRef spec0 w) := by
  fin_cases w
  · exact ((Dx.dat (ent0 m) c).arrAt_in 0 rfl _).trans (mid_of m c main_v0 (by decide)).symm
  · exact ((Dx.dat (ent0 m) c).arrAt_in 1 rfl _).trans (mid_of m c main_v1 (by decide)).symm
  · exact ((Dx.dat (ent0 m) c).arrAt_in 2 rfl _).trans (mid_of m c main_v2 (by decide)).symm
  · exact ((Dx.dat (ent0 m) c).arrAt_in 3 rfl _).trans (mid_of m c main_v3 (by decide)).symm
  · exact ((Dx.dat (ent0 m) c).arrAt_in 4 rfl _).trans (mid_of m c main_v4 (by decide)).symm
  · exact ((Dx.dat (ent0 m) c).arrAt_in 5 rfl _).trans (mid_of m c main_v5 (by decide)).symm
  · exact ((Dx.dat (ent0 m) c).arrAt_in 6 rfl _).trans (mid_of m c main_v6 (by decide)).symm
  · exact ((Dx.dat (ent0 m) c).arrAt_in 7 rfl _).trans (mid_of m c main_arg6 (by decide)).symm
  · exact ((Dx.dat (ent0 m) c).arrAt_in 8 rfl _).trans (mid_of m c main_v7 (by decide)).symm
  · exact (mid_0 m c).symm
  · exact (mid_1 m c).symm
  · exact (mid_2 m c).symm
  · exact (mid_3 m c).symm

/-- The second region's arrays after it, as `last` has them. -/
theorem arrays1 (c : Dev nD) (w : Fin cfg1.W) : (pdats m 1 c).arrAt w cfg1.N = last m c (Pipeline.arrRef spec1 w) := by
  fin_cases w
  · exact ((Dw.dat (ent1 m) c).arrAt_in 0 rfl _).trans (last_of m c main_v8_1 (by decide)).symm
  · exact ((Dw.dat (ent1 m) c).arrAt_in 1 rfl _).trans (last_of m c main_v0 (by decide)).symm
  · exact (last_9 m c).symm

-- unification of the launch lemmas at the pinned configuration unfolds plain definitions in a metavariable's type
set_option backward.isDefEq.respectTransparency.types false in
/-- Region 0 over the thread state "every unscoped buffer at a valuation, and the core owes nothing": entered at the
    valuation before it, left at the valuation after it. -/
def reg0 : Pipeline.RegionSeg (pcfgs (F := F)) adm (pdats m) () defs₀ 𝒱₀ L lv 0 where
  win := (launch0).win.to₀
  block_pos := (launch0).block_pos
  stage_whole := (launch0).stage_whole
  K := PEmpty
  osem k := k.elim
  ho := Pipeline.OwnSemFacts.none _
  hbody c := (Dx.body_obligation (ent0 m) c).loose
  hwaits := Pipeline.hwaits_of_owed_zero _ _ _ _ L lv 0 fun _ _ => rfl
  pre c := iprop(StableHlo.held (c : Thread nD τ) (Pipeline.ucRefs τ sig) (V1 m c) ∗ rides c)
  post c := iprop(StableHlo.held (c : Thread nD τ) (Pipeline.ucRefs τ sig) (mid m c) ∗ rides c)
  X _ := BI.emp
  Y _ := BI.emp
  Z c := Pipeline.unscopedRest (Ix := Unit) (Name := ℕ) (U := UR sig nD τ) (Lvl := ℕ) spec0 c (ent0 m c)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) (launch0).win (launch0).arr_whole c
      ((pdats m 0 c).share_full fun _ => rfl) (ent0 m c) fun _ => rfl
    iintro ⟨⟨Hub, HO⟩, -, -⟩
    ihave H := (show unscopedBufs c (fun b : Ref sig .tc => V1 m c b) ⊢ _ from hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rides Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none]
    iintro Hr
    isplitr; · iempintro
    isplitr; · iempintro
    iapply (show (pdats m 0 c).Φ (Fin.last cfg0.N) ⊢ Pipeline.scopedRest spec0 c from Dx.inv_last (ent0 m) c)
    iexact Hr
  hexit c := by
    rw [← Pipeline.unscopedBufs_held (Ix := Unit) (Name := ℕ) (U := UR sig nD τ) (Lvl := ℕ) c (mid m c)]
    have hjoin := Pipeline.unscopedBufs_of_arrays (p := 0) (pcfgs (F := F)) adm (Ix := Unit) (Name := ℕ) (U := UR sig nD τ) (Lvl := ℕ) (launch0).win (launch0).arr_whole c
      (pdats m) ((pdats m 0 c).share_full fun _ => rfl) (ent0 m c) (fun b => mid m c b) ((pdats m 0 c).arrAt · cfg0.N)
      (arrays0 m c)
      (fun b hb => mid_of m c b fun h => hb (by
        simp only [List.mem_cons, List.not_mem_nil, _root_.or_false] at h
        rcases h with rfl | rfl | rfl | rfl
        exacts [Finset.mem_image.mpr ⟨9, Finset.mem_univ _, rfl⟩,
          Finset.mem_image.mpr ⟨10, Finset.mem_univ _, rfl⟩,
          Finset.mem_image.mpr ⟨11, Finset.mem_univ _, rfl⟩,
          Finset.mem_image.mpr ⟨12, Finset.mem_univ _, rfl⟩]))
    iintro ⟨Ha, HO, -, Hrest⟩
    imodintro
    isplitl [Ha Hrest]
    · iapply hjoin; isplitl [Ha] <;> iassumption
    unfold rides Pipeline.Dat.owesAt Pipeline.owesWithin
    icases HO with ⟨%W, -, HO⟩; iexists W; iexact HO

-- unification of the launch lemmas at the pinned configuration unfolds plain definitions in a metavariable's type
set_option backward.isDefEq.respectTransparency.types false in
/-- Region 1 over the thread state "every unscoped buffer at a valuation, and the core owes nothing": entered at the
    valuation before it, left at the valuation after it. -/
def reg1 : Pipeline.RegionSeg (pcfgs (F := F)) adm (pdats m) () defs₀ 𝒱₀ L lv 1 where
  win := (launch1).win.to₀
  block_pos := (launch1).block_pos
  stage_whole := (launch1).stage_whole
  K := PEmpty
  osem k := k.elim
  ho := Pipeline.OwnSemFacts.none _
  hbody c := (Dw.body_obligation (ent1 m) c).loose
  hwaits := Pipeline.hwaits_of_owed_zero _ _ _ _ L lv 1 fun _ _ => rfl
  pre c := iprop(StableHlo.held (c : Thread nD τ) (Pipeline.ucRefs τ sig) (mid m c) ∗ rides c)
  post c := iprop(StableHlo.held (c : Thread nD τ) (Pipeline.ucRefs τ sig) (last m c) ∗ rides c)
  X _ := BI.emp
  Y _ := BI.emp
  Z c := Pipeline.unscopedRest (Ix := Unit) (Name := ℕ) (U := UR sig nD τ) (Lvl := ℕ) spec1 c (ent1 m c)
  hentry c := by
    rw [Pipeline.ownSems0_none, ← Pipeline.unscopedBufs_held (Ix := Unit) (Name := ℕ) (U := UR sig nD τ) (Lvl := ℕ) c (mid m c)]
    have hsplit := Pipeline.arrays_of_unscopedBufs (p := 1) (pcfgs (F := F)) adm (pdats m) (launch1).win (launch1).arr_whole c
      ((pdats m 1 c).share_full fun _ => rfl) (ent1 m c) fun _ => rfl
    iintro ⟨⟨Hub, HO⟩, -, -⟩
    ihave H := (show unscopedBufs c (fun b : Ref sig .tc => mid m c b) ⊢ _ from hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rides Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none]
    iintro Hr
    isplitr; · iempintro
    isplitr; · iempintro
    iapply (show (pdats m 1 c).Φ (Fin.last cfg1.N) ⊢ Pipeline.scopedRest spec1 c from .rfl)
    iexact Hr
  hexit c := by
    rw [← Pipeline.unscopedBufs_held (Ix := Unit) (Name := ℕ) (U := UR sig nD τ) (Lvl := ℕ) c (last m c)]
    have hjoin := Pipeline.unscopedBufs_of_arrays (p := 1) (pcfgs (F := F)) adm (Ix := Unit) (Name := ℕ) (U := UR sig nD τ) (Lvl := ℕ) (launch1).win (launch1).arr_whole c
      (pdats m) ((pdats m 1 c).share_full fun _ => rfl) (ent1 m c) (fun b => last m c b) ((pdats m 1 c).arrAt · cfg1.N)
      (arrays1 m c)
      (fun b hb => last_of m c b fun h => hb (by
        simp only [List.mem_cons, List.not_mem_nil, _root_.or_false] at h
        subst h; exact Finset.mem_image.mpr ⟨2, Finset.mem_univ _, rfl⟩))
    iintro ⟨Ha, HO, -, Hrest⟩
    imodintro
    isplitl [Ha Hrest]
    · iapply hjoin; isplitl [Ha] <;> iassumption
    unfold rides Pipeline.Dat.owesAt Pipeline.owesWithin
    icases HO with ⟨%W, -, HO⟩; iexists W; iexact HO

/-! ## The run -/

set_option backward.isDefEq.respectTransparency.types false in
set_option maxHeartbeats 1000000 in
/-- From any memory with zero counters every weakly fair execution of @main terminates, and every final state has every
    unscoped buffer at the last valuation and every semaphore counter at zero. -/
theorem run : θ_run defs (onTc (τ := τ) (main (F := F))) ⟨m, fun _ => 0, ρ⟩ (fun r => (∀ c : Dev nD, ∀ b ∈ Pipeline.ucRefs τ sig,
      r.2.mem (c, b) = V4 m (outs m) c b) ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => rides) () (pdats m) (reg0 m) (reg1 m))
    (fun c Q => by
      rewrite [main_chain c, Pipeline.Seg.run_eq_chain,
        show (segs m (outs m) 𝒱₀ L lv (fun _ => rides) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c))
    (Tₙ := fun c => StableHlo.held (c : Thread nD τ) (Pipeline.ucRefs τ sig) (V4 m (outs m) c))
    (hch := fun c => ⟨.rfl, .rfl, .rfl, ?_, sep_mono .rfl .rfl⟩)
    (hinit := ?_) (QY := fun c s => ∀ b ∈ Pipeline.ucRefs τ sig, s.mem (c, b) = V4 m (outs m) c b)
    (hfin := fun c s' => ?_) (hQ := fun _ h hz => ⟨h, funext fun g => hz g (.inr (regions_no_unscoped g.2))⟩)
  · show iprop(StableHlo.held (c : Thread nD τ) (Pipeline.ucRefs τ sig) (last m c) ∗ rides c) ⊢ iprop(StableHlo.held (c : Thread nD τ) (Pipeline.ucRefs τ sig) (V3 m (outs m) c) ∗ rides c)
    rw [V3_eq]
  · refine Pipeline.initEach L lv fun c => ?_
    rw [Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    unfold rides
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro; exact h
    iexact HSI

/-- A TensorCore buffer outside the kernels' scopes is among the buffers that the run reads at its end. -/
theorem at_end (r : Ref sig .tc) (h : ¬(Proc.devRef (τ := τ) .tc r).isScoped) : Proc.devRef (τ := τ) .tc r ∈ Pipeline.ucRefs τ sig :=
  Finset.mem_filter.mpr ⟨StableHlo.devRef_mem_tcRefs r, h⟩

/-- The frame: every execution terminates, the arguments end as launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c (Proc.devRef .tc main_arg0) (Finset.mem_filter.mpr ⟨StableHlo.devRef_mem_tcRefs main_arg0, by decide⟩)).trans (V4_main_arg0 m (outs m) c),
      (h.1 c (Proc.devRef .tc main_arg1) (Finset.mem_filter.mpr ⟨StableHlo.devRef_mem_tcRefs main_arg1, by decide⟩)).trans (V4_main_arg1 m (outs m) c),
      (h.1 c (Proc.devRef .tc main_arg2) (Finset.mem_filter.mpr ⟨StableHlo.devRef_mem_tcRefs main_arg2, by decide⟩)).trans (V4_main_arg2 m (outs m) c),
      (h.1 c (Proc.devRef .tc main_arg3) (Finset.mem_filter.mpr ⟨StableHlo.devRef_mem_tcRefs main_arg3, by decide⟩)).trans (V4_main_arg3 m (outs m) c),
      (h.1 c (Proc.devRef .tc main_arg4) (Finset.mem_filter.mpr ⟨StableHlo.devRef_mem_tcRefs main_arg4, by decide⟩)).trans (V4_main_arg4 m (outs m) c),
      (h.1 c (Proc.devRef .tc main_arg5) (Finset.mem_filter.mpr ⟨StableHlo.devRef_mem_tcRefs main_arg5, by decide⟩)).trans (V4_main_arg5 m (outs m) c),
      (h.1 c (Proc.devRef .tc main_arg6) (Finset.mem_filter.mpr ⟨StableHlo.devRef_mem_tcRefs main_arg6, by decide⟩)).trans (V4_main_arg6 m (outs m) c),
      (h.1 c (Proc.devRef .tc main_arg7) (Finset.mem_filter.mpr ⟨StableHlo.devRef_mem_tcRefs main_arg7, by decide⟩)).trans (V4_main_arg7 m (outs m) c),
      (h.1 c (Proc.devRef .tc main_arg8) (Finset.mem_filter.mpr ⟨StableHlo.devRef_mem_tcRefs main_arg8, by decide⟩)).trans (V4_main_arg8 m (outs m) c)⟩, h.2⟩) (run m ρ)

end Cert.Kernel.Whole

end
-- ==== Proof.Ideal.Spec.lean ====
/-
The mathematics of the two kernels, over the extended reals and without any buffer: layer norm and the gradients through
it and through the projection that follows it.
-/
module

public import Idealize.ShloMosaic.PureOps.Ideal

@[expose] public section

noncomputable section

namespace Cert.Spec

open Idealize.ShloMosaic

/-- The number of features, 2048, as the programs write it: the value of an f32 constant. -/
def width : EReal := Ideal.ofBits .f32 0x45000000#32

/-- A normalized entry: the code times its row's scale, less the row's mean, times the row's reciprocal deviation. -/
def scaled (x xs mu rs : EReal) : EReal := (x * xs - mu) * rs

/-- One row of the gradient before the projection: the row of the upstream gradient against each row of the weights. -/
def back (q : Fin 4096 → EReal) (w : Fin 2048 → Fin 4096 → EReal) (d : Fin 2048) : EReal := ∑ k, q k * w d k

/-- One row of the input's gradient, from the row `h` of the gradient before the projection, the normalized row `n`, the
    gains `ga` and the row's reciprocal deviation `rs`. -/
def dxRow (h n ga : Fin 2048 → EReal) (rs : EReal) (d : Fin 2048) : EReal :=
  rs * (h d * ga d - Ideal.div (∑ e, h e * ga e) width - n d * Ideal.div (∑ e, h e * ga e * n e) width)

/-- The program's arguments as functions of their coordinates: codes, row scales, reciprocal deviations, means, gains,
    offsets, weight codes, weight scales and the upstream gradient. -/
structure Args where
  x : Fin 1024 → Fin 2048 → EReal
  xs : Fin 1024 → EReal
  rs : Fin 1024 → EReal
  mu : Fin 1024 → EReal
  ga : Fin 2048 → EReal
  be : Fin 2048 → EReal
  w : Fin 2048 → Fin 4096 → EReal
  ws : Fin 4096 → EReal
  q : Fin 1024 → Fin 4096 → EReal

variable (A : Args)

/-- The normalized input. -/
def nx (s : Fin 1024) (d : Fin 2048) : EReal := scaled (A.x s d) (A.xs s) (A.mu s) (A.rs s)
/-- The layer norm's output. -/
def xh (s : Fin 1024) (d : Fin 2048) : EReal := nx A s d * A.ga d + A.be d
/-- The dequantized weights. -/
def wt (d : Fin 2048) (k : Fin 4096) : EReal := A.w d k * A.ws k
/-- The gradient of the layer norm's output. -/
def dxh (s : Fin 1024) (d : Fin 2048) : EReal := back (A.q s) (wt A) d
/-- The gradient of the input. -/
def dx (s : Fin 1024) (d : Fin 2048) : EReal := dxRow (dxh A s) (nx A s) A.ga (A.rs s) d
/-- The gradient of the weights. -/
def dw (d : Fin 2048) (k : Fin 4096) : EReal := ∑ s, xh A s d * A.q s k
/-- The gradient of the gains. -/
def dg (d : Fin 2048) : EReal := ∑ s, dxh A s d * nx A s d
/-- The gradient of the offsets. -/
def db (d : Fin 2048) : EReal := ∑ s, dxh A s d

end Cert.Spec

end
-- ==== Proof.Ideal.DxBlocks.lean ====
/-
The first kernel's blocks as pieces of its arrays, over the extended reals.
-/
module

public import proofs.«01_k».proof.Proof.Ideal.Run
public import proofs.«01_k».proof.Proof.Ideal.Spec
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The array row that row `r` of grid point `t`'s block is. -/
def row (t : Fin cfg0.N) (r : Fin 256) : Fin 1024 :=
  ⟨t.val * 256 + r.val, by have := lt_of_lt_of_eq t.isLt (show cfg0.N = 4 from N_0); have := r.isLt; omega⟩

/-- Which block of the upstream gradient a point is at. -/
theorem idx0 : ∀ t : Fin cfg0.N, win0_0.index t = ![t.val, 0] := (by decide +kernel : ∀ t : Fin grid0.N, win0_0.index t = ![t.val, 0])
/-- Which block of the codes a point is at. -/
theorem idx1 : ∀ t : Fin cfg0.N, win0_1.index t = ![t.val, 0] := (by decide +kernel : ∀ t : Fin grid0.N, win0_1.index t = ![t.val, 0])
/-- Which block of the row scales a point is at. -/
theorem idx2 : ∀ t : Fin cfg0.N, win0_2.index t = ![t.val, 0] := (by decide +kernel : ∀ t : Fin grid0.N, win0_2.index t = ![t.val, 0])
/-- Which block of the reciprocal deviations a point is at. -/
theorem idx3 : ∀ t : Fin cfg0.N, win0_3.index t = ![t.val, 0] := (by decide +kernel : ∀ t : Fin grid0.N, win0_3.index t = ![t.val, 0])
/-- Which block of the means a point is at. -/
theorem idx4 : ∀ t : Fin cfg0.N, win0_4.index t = ![t.val, 0] := (by decide +kernel : ∀ t : Fin grid0.N, win0_4.index t = ![t.val, 0])
/-- Which block of the gains a point is at. -/
theorem idx5 : ∀ t : Fin cfg0.N, win0_5.index t = ![0, 0] := (by decide +kernel : ∀ t : Fin grid0.N, win0_5.index t = ![0, 0])
/-- Which block of the offsets a point is at. -/
theorem idx6 : ∀ t : Fin cfg0.N, win0_6.index t = ![0, 0] := (by decide +kernel : ∀ t : Fin grid0.N, win0_6.index t = ![0, 0])
/-- Which block of the weight codes a point is at. -/
theorem idx7 : ∀ t : Fin cfg0.N, win0_7.index t = ![0, 0] := (by decide +kernel : ∀ t : Fin grid0.N, win0_7.index t = ![0, 0])
/-- Which block of the weight scales a point is at. -/
theorem idx8 : ∀ t : Fin cfg0.N, win0_8.index t = ![0, 0] := (by decide +kernel : ∀ t : Fin grid0.N, win0_8.index t = ![0, 0])
/-- Which block of the input's gradient a point is at. -/
theorem idx9 : ∀ t : Fin cfg0.N, win0_9.index t = ![t.val, 0] := (by decide +kernel : ∀ t : Fin grid0.N, win0_9.index t = ![t.val, 0])
/-- Which block of the layer norm's output a point is at. -/
theorem idx10 : ∀ t : Fin cfg0.N, win0_10.index t = ![t.val, 0] := (by decide +kernel : ∀ t : Fin grid0.N, win0_10.index t = ![t.val, 0])
/-- Which block of dgamma a point is at. -/
theorem idx11 : ∀ t : Fin cfg0.N, win0_11.index t = ![0, 0] := (by decide +kernel : ∀ t : Fin grid0.N, win0_11.index t = ![0, 0])
/-- Which block of dbeta a point is at. -/
theorem idx12 : ∀ t : Fin cfg0.N, win0_12.index t = ![0, 0] := (by decide +kernel : ∀ t : Fin grid0.N, win0_12.index t = ![0, 0])

/-! ## An entry of each input block as an entry of its array -/

/-- An entry of a block of the upstream gradient as an entry of its array. -/
theorem iblk0_apply (c : Dev nD) (t : Fin cfg0.N) (r : Fin 256) (k : Fin 4096) :
    (iblk V c 0 t : Vec Ideal S256x4096 .bf16) (ix2 r k) = (V c main_v0 : Vec Ideal S1024x4096 .bf16) (ix2 (row t r) k) := by
  blk_ext [iblk, row, idx0 t]

/-- An entry of a block of the codes as an entry of its array. -/
theorem iblk1_apply (c : Dev nD) (t : Fin cfg0.N) (r : Fin 256) (k : Fin 2048) :
    (iblk V c 1 t : Vec Ideal S256x2048 .fp8e4m3) (ix2 r k) = (V c main_v1 : Vec Ideal S1024x2048 .fp8e4m3) (ix2 (row t r) k) := by
  blk_ext [iblk, row, idx1 t]

/-- An entry of a block of the row scales as an entry of its array. -/
theorem iblk2_apply (c : Dev nD) (t : Fin cfg0.N) (r : Fin 256) :
    (iblk V c 2 t : Vec Ideal S256x1 .f32) (ix2 r 0) = (V c main_v2 : Vec Ideal S1024x1 .f32) (ix2 (row t r) 0) := by
  blk_ext [iblk, row, idx2 t]

/-- An entry of a block of the reciprocal deviations as an entry of its array. -/
theorem iblk3_apply (c : Dev nD) (t : Fin cfg0.N) (r : Fin 256) :
    (iblk V c 3 t : Vec Ideal S256x1 .f32) (ix2 r 0) = (V c main_v3 : Vec Ideal S1024x1 .f32) (ix2 (row t r) 0) := by
  blk_ext [iblk, row, idx3 t]

/-- An entry of a block of the means as an entry of its array. -/
theorem iblk4_apply (c : Dev nD) (t : Fin cfg0.N) (r : Fin 256) :
    (iblk V c 4 t : Vec Ideal S256x1 .f32) (ix2 r 0) = (V c main_v4 : Vec Ideal S1024x1 .f32) (ix2 (row t r) 0) := by
  blk_ext [iblk, row, idx4 t]

/-- An entry of a block of the gains as an entry of its array. -/
theorem iblk5_apply (c : Dev nD) (t : Fin cfg0.N) (k : Fin 2048) :
    (iblk V c 5 t : Vec Ideal S1x2048 .f32) (ix2 0 k) = (V c main_v5 : Vec Ideal S1x2048 .f32) (ix2 0 k) := by
  blk_ext [iblk, row, idx5 t]

/-- An entry of a block of the offsets as an entry of its array. -/
theorem iblk6_apply (c : Dev nD) (t : Fin cfg0.N) (k : Fin 2048) :
    (iblk V c 6 t : Vec Ideal S1x2048 .f32) (ix2 0 k) = (V c main_v6 : Vec Ideal S1x2048 .f32) (ix2 0 k) := by
  blk_ext [iblk, row, idx6 t]

/-- An entry of a block of the weight codes as an entry of its array. -/
theorem iblk7_apply (c : Dev nD) (t : Fin cfg0.N) (r : Fin 2048) (k : Fin 4096) :
    (iblk V c 7 t : Vec Ideal S2048x4096 .fp8e4m3) (ix2 r k) = (V c main_arg6 : Vec Ideal S2048x4096 .fp8e4m3) (ix2 r k) := by
  blk_ext [iblk, row, idx7 t]

/-- An entry of a block of the weight scales as an entry of its array. -/
theorem iblk8_apply (c : Dev nD) (t : Fin cfg0.N) (k : Fin 4096) :
    (iblk V c 8 t : Vec Ideal S1x4096 .f32) (ix2 0 k) = (V c main_v7 : Vec Ideal S1x4096 .f32) (ix2 0 k) := by
  blk_ext [iblk, row, idx8 t]

end Cert.KernelIdeal.Dx

end
-- ==== Proof.Ideal.DxValue.lean ====
/-
What the first kernel's blocks hold, entry by entry, over the extended reals.
-/
module

public import proofs.«01_k».proof.Proof.Ideal.DxBody
public import proofs.«01_k».proof.Proof.Ideal.Spec
public import Idealize.ShloMosaic.Lib.Pointwise
public import Idealize.ShloMosaic.Lib.Pipeline.ValueKit

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where entry `(x0, x1)` of the row block at row `o` sits in the weight scratch. -/
theorem emb_rows (o : ℕ) (inb : ∀ a, ![o, 0] a + S256x4096.size a ≤ S2048x4096.size a) (x0 : Fin 256) (x1 : Fin 4096) (h : o + x0.val < 2048) :
    (Rect.unit (s := S2048x4096) ![o, 0] S256x4096.size inb).emb (ix2 x0 x1) = ix2 ⟨o + x0.val, h⟩ x1 := by
  funext a
  match a with
  | ⟨0, _⟩ => exact Fin.ext (show o + 1 * x0.val = o + x0.val by omega)
  | ⟨1, _⟩ => exact Fin.ext (show 0 + 1 * x1.val = x1.val by omega)

/-- An entry of the widened weights is the code times its column's scale. -/
theorem fill_apply (x7 : Vec Ideal S2048x4096 .fp8e4m3) (x8 : Vec Ideal S1x4096 .f32) (d : Fin 2048) (k : Fin 4096) :
    fill (F := Ideal) x7 x8 (ix2 d k) = x7 (ix2 d k) * x8 (ix2 0 k) := by
  refine (View.canon_apply_of_pieces (Val := Elt Ideal) (fun i => (x7 i * x8 (ix2 0 (i 1)) : EReal)) (pieces x7 x8) ?_ _ (pieces_cover x7 x8 _)).trans rfl
  intro p hp
  simp only [pieces, List.mem_cons, List.not_mem_nil, _root_.or_false] at hp
  rcases hp with rfl | rfl | rfl | rfl | rfl | rfl | rfl | rfl <;> intro x <;> obtain ⟨x0, x1, rfl⟩ : ∃ (a : Fin 256) (b : Fin 4096), x = ix2 a b := ⟨x 0, x 1, eq_ix2 x⟩ <;>
    dsimp only <;> rw [emb_rows _ _ x0 x1 (by have := x0.isLt; omega)] <;>
    pointwise [k0_pay4, k0_pay5, k0_pay6, k0_pay7, k0_pay8, k0_pay9, k0_pay10, k0_pay11, k0_pay12, k0_pay13]

/-- The gradient block before the projection: each entry is a row of the upstream gradient against a row of the weights. -/
theorem back_apply (x0 : Vec Ideal S256x4096 .bf16) (w : Vec Ideal S2048x4096 .bf16) (r : Fin 256) (d : Fin 2048) :
    k0_pay16 (F := Ideal) x0 w (ix2 r d) = Spec.back (fun k => x0 (ix2 r k)) (fun d k => w (ix2 d k)) d := by
  pointwise [k0_pay16, Spec.back]

/-- The normalized block. -/
theorem norm_apply (x1 : Vec Ideal S256x2048 .fp8e4m3) (x2 x4 x3 : Vec Ideal S256x1 .f32) (r : Fin 256) (d : Fin 2048) :
    k0_pay17 (F := Ideal) x1 x2 x4 x3 (ix2 r d) = Spec.scaled (x1 (ix2 r d)) (x2 (ix2 r 0)) (x4 (ix2 r 0)) (x3 (ix2 r 0)) := by
  pointwise [k0_pay17, Spec.scaled]

/-- The block of the layer norm's output. -/
theorem xhB_apply (x1 : Vec Ideal S256x2048 .fp8e4m3) (x2 x3 x4 : Vec Ideal S256x1 .f32) (x5 x6 : Vec Ideal S1x2048 .f32) (r : Fin 256) (d : Fin 2048) :
    xhB (F := Ideal) x1 x2 x3 x4 x5 x6 (ix2 r d)
      = Spec.scaled (x1 (ix2 r d)) (x2 (ix2 r 0)) (x4 (ix2 r 0)) (x3 (ix2 r 0)) * x5 (ix2 0 d) + x6 (ix2 0 d) := by
  pointwise [xhB, k0_pay18, k0_pay17, Spec.scaled]

/-- The last steps of the input's gradient, row by row, from the gradient block `h` and the normalized block `n`. -/
theorem rows_apply (h n : Vec Ideal S256x2048 .f32) (x5 : Vec Ideal S1x2048 .f32) (x3 : Vec Ideal S256x1 .f32) (r : Fin 256) (d : Fin 2048) :
    k0_pay3 (F := Ideal) h n x5 x3 (ix2 r d)
      = Spec.dxRow (fun e => h (ix2 r e)) (fun e => n (ix2 r e)) (fun e => x5 (ix2 0 e)) (x3 (ix2 r 0)) d := by
  pointwise [k0_pay3, Spec.dxRow, Spec.width]

/-- The block of the input's gradient. -/
theorem dxB_apply (x0 : Vec Ideal S256x4096 .bf16) (x1 : Vec Ideal S256x2048 .fp8e4m3) (x2 x3 x4 : Vec Ideal S256x1 .f32)
    (x5 : Vec Ideal S1x2048 .f32) (w : Vec Ideal S2048x4096 .bf16) (r : Fin 256) (d : Fin 2048) :
    dxB (F := Ideal) x0 x1 x2 x3 x4 x5 w (ix2 r d)
      = Spec.dxRow (Spec.back (fun k => x0 (ix2 r k)) (fun d k => w (ix2 d k)))
          (fun e => Spec.scaled (x1 (ix2 r e)) (x2 (ix2 r 0)) (x4 (ix2 r 0)) (x3 (ix2 r 0))) (fun e => x5 (ix2 0 e)) (x3 (ix2 r 0)) d := by
  unfold dxB
  rw [rows_apply]
  simp only [back_apply, norm_apply]

/-- The running sum for the gains grows by the block's column sums of gradient times normalized input. -/
theorem dgB_apply (x0 : Vec Ideal S256x4096 .bf16) (x1 : Vec Ideal S256x2048 .fp8e4m3) (x2 x3 x4 : Vec Ideal S256x1 .f32)
    (w : Vec Ideal S2048x4096 .bf16) (acc : Vec Ideal S1x2048 .f32) (d : Fin 2048) :
    dgB (F := Ideal) x0 x1 x2 x3 x4 w acc (ix2 0 d) = acc (ix2 0 d)
      + ∑ r : Fin 256, Spec.back (fun k => x0 (ix2 r k)) (fun d k => w (ix2 d k)) d * Spec.scaled (x1 (ix2 r d)) (x2 (ix2 r 0)) (x4 (ix2 r 0)) (x3 (ix2 r 0)) := by
  unfold dgB
  generalize hh : k0_pay16 (F := Ideal) x0 w = hb
  generalize hn : k0_pay17 (F := Ideal) x1 x2 x4 x3 = nb
  pointwise [k0_pay1, k0_pay19]
  subst hh hn
  simp only [back_apply, norm_apply]

/-- The running sum for the offsets grows by the block's column sums of the gradient. -/
theorem dbB_apply (x0 : Vec Ideal S256x4096 .bf16) (w : Vec Ideal S2048x4096 .bf16) (acc : Vec Ideal S1x2048 .f32) (d : Fin 2048) :
    dbB (F := Ideal) x0 w acc (ix2 0 d) = acc (ix2 0 d) + ∑ r : Fin 256, Spec.back (fun k => x0 (ix2 r k)) (fun d k => w (ix2 d k)) d := by
  unfold dbB
  generalize hh : k0_pay16 (F := Ideal) x0 w = hb
  pointwise [k0_pay2]
  subst hh
  simp only [back_apply]

/-- The running sums start at zero. -/
theorem start_dg (d : Fin 2048) : (k0_pay14 (F := Ideal)) (ix2 0 d) = (0 : EReal) := by pointwise [k0_pay14]
/-- The sum of dbeta starts from zero. -/
theorem start_db (d : Fin 2048) : (k0_pay15 (F := Ideal)) (ix2 0 d) = (0 : EReal) := by pointwise [k0_pay15]

end Cert.KernelIdeal.Dx

end
-- ==== Proof.Ideal.Entry.lean ====
/-
What the first region finds, entry by entry, over the extended reals.
-/
module

public import proofs.«01_k».proof.Proof.Ideal.Run
public import proofs.«01_k».proof.Proof.Ideal.Spec
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The program's arguments on core `c`, as functions of their coordinates. -/
def args (c : Dev nD) : Spec.Args where
  x s d := (m ((c : Thread nD τ).loc main_arg0) : Vec Ideal S1x1024x2048 .fp8e4m3) (ix3 0 s d)
  xs s := (m ((c : Thread nD τ).loc main_arg1) : Vec Ideal S1x1024 .f32) (ix2 0 s)
  rs s := (m ((c : Thread nD τ).loc main_arg2) : Vec Ideal S1x1024 .f32) (ix2 0 s)
  mu s := (m ((c : Thread nD τ).loc main_arg3) : Vec Ideal S1x1024 .f32) (ix2 0 s)
  ga d := (m ((c : Thread nD τ).loc main_arg4) : Vec Ideal S2048 .f32) (ix1 d)
  be d := (m ((c : Thread nD τ).loc main_arg5) : Vec Ideal S2048 .f32) (ix1 d)
  w d k := (m ((c : Thread nD τ).loc main_arg6) : Vec Ideal S2048x4096 .fp8e4m3) (ix2 d k)
  ws k := (m ((c : Thread nD τ).loc main_arg7) : Vec Ideal S4096 .f32) (ix1 k)
  q s k := (m ((c : Thread nD τ).loc main_arg8) : Vec Ideal S1x1024x4096 .bf16) (ix3 0 s k)

/-! ## The reshaped arguments that the first region finds, entry by entry -/

/-- Entry of the upstream gradient. -/
theorem ent_main_v0 (c : Dev nD) (s : Fin 1024) (k : Fin 4096) : (ent0 m c main_v0 : Vec Ideal S1024x4096 .bf16) (ix2 s k) = (args m c).q s k := by
  unfold ent0 V1
  entry_read
  pointwise [args]

/-- Entry of the codes. -/
theorem ent_main_v1 (c : Dev nD) (s : Fin 1024) (d : Fin 2048) : (ent0 m c main_v1 : Vec Ideal S1024x2048 .fp8e4m3) (ix2 s d) = (args m c).x s d := by
  unfold ent0 V1
  entry_read
  pointwise [args]

/-- Entry of the row scales. -/
theorem ent_main_v2 (c : Dev nD) (s : Fin 1024) : (ent0 m c main_v2 : Vec Ideal S1024x1 .f32) (ix2 s 0) = (args m c).xs s := by
  unfold ent0 V1
  entry_read
  pointwise [args]

/-- Entry of the reciprocal deviations. -/
theorem ent_main_v3 (c : Dev nD) (s : Fin 1024) : (ent0 m c main_v3 : Vec Ideal S1024x1 .f32) (ix2 s 0) = (args m c).rs s := by
  unfold ent0 V1
  entry_read
  pointwise [args]

/-- Entry of the means. -/
theorem ent_main_v4 (c : Dev nD) (s : Fin 1024) : (ent0 m c main_v4 : Vec Ideal S1024x1 .f32) (ix2 s 0) = (args m c).mu s := by
  unfold ent0 V1
  entry_read
  pointwise [args]

/-- Entry of the gains. -/
theorem ent_main_v5 (c : Dev nD) (d : Fin 2048) : (ent0 m c main_v5 : Vec Ideal S1x2048 .f32) (ix2 0 d) = (args m c).ga d := by
  unfold ent0 V1
  entry_read
  pointwise [args]

/-- Entry of the offsets. -/
theorem ent_main_v6 (c : Dev nD) (d : Fin 2048) : (ent0 m c main_v6 : Vec Ideal S1x2048 .f32) (ix2 0 d) = (args m c).be d := by
  unfold ent0 V1
  entry_read
  pointwise [args]

/-- Entry of the weight codes. -/
theorem ent_main_arg6 (c : Dev nD) (d : Fin 2048) (k : Fin 4096) : (ent0 m c main_arg6 : Vec Ideal S2048x4096 .fp8e4m3) (ix2 d k) = (args m c).w d k := by
  rw [show ent0 m c main_arg6 = m ((c : Thread nD τ).loc main_arg6) from V1_of m c main_arg6 (by decide)]
  rfl

/-- Entry of the weight scales. -/
theorem ent_main_v7 (c : Dev nD) (k : Fin 4096) : (ent0 m c main_v7 : Vec Ideal S1x4096 .f32) (ix2 0 k) = (args m c).ws k := by
  unfold ent0 V1
  entry_read
  pointwise [args]

end Cert.KernelIdeal.Whole

end
-- ==== Proof.Ideal.DxArrays.lean ====
/-
The first kernel's arrays after its region, entry by entry, over the extended reals.
-/
module

public import proofs.«01_k».proof.Proof.Ideal.DxBlocks
public import proofs.«01_k».proof.Proof.Ideal.DxValue
public import proofs.«01_k».proof.Proof.Ideal.Entry

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Whole (ent0 args)

variable (m : (ℓ : Loc nD τ sig) → Buf (Elt Ideal) ℓ)

/-! ## The first kernel's terms at the program's arguments -/

/-- The scratch holds the dequantized weights. -/
theorem wts_ent (c : Dev nD) (d : Fin 2048) (k : Fin 4096) : wts (ent0 m) c (ix2 d k) = Spec.wt (args m c) d k := by
  unfold wts
  refine (fill_apply _ _ d k).trans ?_
  rw [Spec.wt, ← Whole.ent_main_arg6, ← Whole.ent_main_v7]
  exact congrArg₂ (fun a b : EReal => a * b) (iblk7_apply (ent0 m) c t0_0 d k) (iblk8_apply (ent0 m) c t0_0 k)

/-- A row of the upstream gradient against the scratch is that row of the gradient of the layer norm's output. -/
theorem back_ent (c : Dev nD) (t : Fin cfg0.N) (r : Fin 256) :
    Spec.back (fun k => (iblk (ent0 m) c 0 t : Vec Ideal S256x4096 .bf16) (ix2 r k)) (fun d k => wts (ent0 m) c (ix2 d k))
      = Spec.dxh (args m c) (row t r) := by
  have hq : (fun k => (iblk (ent0 m) c 0 t : Vec Ideal S256x4096 .bf16) (ix2 r k)) = (args m c).q (row t r) :=
    funext fun k => (iblk0_apply (ent0 m) c t r k).trans (Whole.ent_main_v0 m c _ k)
  have hw : (fun d k => wts (ent0 m) c (ix2 d k)) = Spec.wt (args m c) := funext fun d => funext fun k => wts_ent m c d k
  rw [hq, hw]; rfl

/-- An entry of the normalized block. -/
theorem scaled_ent (c : Dev nD) (t : Fin cfg0.N) (r : Fin 256) (d : Fin 2048) :
    Spec.scaled ((iblk (ent0 m) c 1 t : Vec Ideal S256x2048 .fp8e4m3) (ix2 r d)) ((iblk (ent0 m) c 2 t : Vec Ideal S256x1 .f32) (ix2 r 0))
        ((iblk (ent0 m) c 4 t : Vec Ideal S256x1 .f32) (ix2 r 0)) ((iblk (ent0 m) c 3 t : Vec Ideal S256x1 .f32) (ix2 r 0))
      = Spec.nx (args m c) (row t r) d := by
  unfold Spec.nx
  rw [← Whole.ent_main_v1, ← Whole.ent_main_v2, ← Whole.ent_main_v3, ← Whole.ent_main_v4,
    ← iblk1_apply (ent0 m) c t r d, ← iblk2_apply (ent0 m) c t r, ← iblk3_apply (ent0 m) c t r, ← iblk4_apply (ent0 m) c t r]

/-- The gains that a point reads. -/
theorem gain_ent (c : Dev nD) (t : Fin cfg0.N) (d : Fin 2048) : (iblk (ent0 m) c 5 t : Vec Ideal S1x2048 .f32) (ix2 0 d) = (args m c).ga d :=
  (iblk5_apply (ent0 m) c t d).trans (Whole.ent_main_v5 m c d)
/-- The offsets that a point reads. -/
theorem offset_ent (c : Dev nD) (t : Fin cfg0.N) (d : Fin 2048) : (iblk (ent0 m) c 6 t : Vec Ideal S1x2048 .f32) (ix2 0 d) = (args m c).be d :=
  (iblk6_apply (ent0 m) c t d).trans (Whole.ent_main_v6 m c d)
/-- The reciprocal deviation that a point reads. -/
theorem rstd_ent (c : Dev nD) (t : Fin cfg0.N) (r : Fin 256) : (iblk (ent0 m) c 3 t : Vec Ideal S256x1 .f32) (ix2 r 0) = (args m c).rs (row t r) :=
  (iblk3_apply (ent0 m) c t r).trans (Whole.ent_main_v3 m c _)

/-- What a point leaves of the input's gradient. -/
theorem dxB_ent (c : Dev nD) (t : Fin cfg0.N) (r : Fin 256) (d : Fin 2048) :
    dxB (F := Ideal) (iblk (ent0 m) c 0 t) (iblk (ent0 m) c 1 t) (iblk (ent0 m) c 2 t) (iblk (ent0 m) c 3 t) (iblk (ent0 m) c 4 t) (iblk (ent0 m) c 5 t)
      (wts (ent0 m) c) (ix2 r d) = Spec.dx (args m c) (row t r) d := by
  refine (dxB_apply _ _ _ _ _ _ _ r d).trans ?_
  unfold Spec.dx
  congr 1
  · exact back_ent m c t r
  · funext e; exact scaled_ent m c t r e
  · funext e; exact gain_ent m c t e
  · exact rstd_ent m c t r

/-- What a point leaves of the layer norm's output. -/
theorem xhB_ent (c : Dev nD) (t : Fin cfg0.N) (r : Fin 256) (d : Fin 2048) :
    xhB (F := Ideal) (iblk (ent0 m) c 1 t) (iblk (ent0 m) c 2 t) (iblk (ent0 m) c 3 t) (iblk (ent0 m) c 4 t) (iblk (ent0 m) c 5 t) (iblk (ent0 m) c 6 t)
      (ix2 r d) = Spec.xh (args m c) (row t r) d := by
  refine (xhB_apply _ _ _ _ _ _ r d).trans ?_
  unfold Spec.xh
  rw [← scaled_ent m c t r d, ← gain_ent m c t d, ← offset_ent m c t d]

/-- What a point adds to the gradient of the gains. -/
theorem dgB_ent (c : Dev nD) (t : Fin cfg0.N) (acc : Vec Ideal S1x2048 .f32) (d : Fin 2048) :
    dgB (F := Ideal) (iblk (ent0 m) c 0 t) (iblk (ent0 m) c 1 t) (iblk (ent0 m) c 2 t) (iblk (ent0 m) c 3 t) (iblk (ent0 m) c 4 t) (wts (ent0 m) c) acc (ix2 0 d)
      = acc (ix2 0 d) + ∑ r : Fin 256, Spec.dxh (args m c) (row t r) d * Spec.nx (args m c) (row t r) d := by
  refine (dgB_apply _ _ _ _ _ _ acc d).trans ?_
  refine congrArg (fun z : EReal => acc (ix2 0 d) + z) (Finset.sum_congr rfl fun r _ => ?_)
  exact congrArg₂ (fun a b : EReal => a * b) (congrFun (back_ent m c t r) d) (scaled_ent m c t r d)

/-- What a point adds to the gradient of the offsets. -/
theorem dbB_ent (c : Dev nD) (t : Fin cfg0.N) (acc : Vec Ideal S1x2048 .f32) (d : Fin 2048) :
    dbB (F := Ideal) (iblk (ent0 m) c 0 t) (wts (ent0 m) c) acc (ix2 0 d) = acc (ix2 0 d) + ∑ r : Fin 256, Spec.dxh (args m c) (row t r) d := by
  refine (dbB_apply _ _ acc d).trans ?_
  exact congrArg (fun z : EReal => acc (ix2 0 d) + z) (Finset.sum_congr rfl fun r _ => congrFun (back_ent m c t r) d)

/-- The running sum of the gradient of the gains: the rows of the blocks so far. -/
theorem dgAt_ent (c : Dev nD) (d : Fin 2048) : ∀ (n : ℕ) (h : n < cfg0.N), dgAt (ent0 m) c n h (ix2 0 d)
      = ∑ i : Fin (n + 1), ∑ r : Fin 256, Spec.dxh (args m c) (row ⟨i.val, Nat.lt_of_lt_of_le i.isLt h⟩ r) d * Spec.nx (args m c) (row ⟨i.val, Nat.lt_of_lt_of_le i.isLt h⟩ r) d
  | 0, h => by
    refine (dgB_ent m c ⟨0, h⟩ _ d).trans ?_
    rw [start_dg, zero_add, Fin.sum_univ_one]; rfl
  | n + 1, h => by
    refine (dgB_ent m c ⟨n + 1, h⟩ _ d).trans ?_
    rw [dgAt_ent c d n (Nat.lt_of_succ_lt h), Fin.sum_univ_castSucc (n := n + 1)]; rfl

/-- The running sum of the gradient of the offsets. -/
theorem dbAt_ent (c : Dev nD) (d : Fin 2048) : ∀ (n : ℕ) (h : n < cfg0.N), dbAt (ent0 m) c n h (ix2 0 d)
      = ∑ i : Fin (n + 1), ∑ r : Fin 256, Spec.dxh (args m c) (row ⟨i.val, Nat.lt_of_lt_of_le i.isLt h⟩ r) d
  | 0, h => by
    refine (dbB_ent m c ⟨0, h⟩ _ d).trans ?_
    rw [start_db, zero_add, Fin.sum_univ_one]; rfl
  | n + 1, h => by
    refine (dbB_ent m c ⟨n + 1, h⟩ _ d).trans ?_
    rw [dbAt_ent c d n (Nat.lt_of_succ_lt h), Fin.sum_univ_castSucc (n := n + 1)]; rfl

/-- An index of a one-row array is its column. -/
theorem one_row (j : S1x2048.Idx) : j = ix2 0 (j 1) :=
  (eq_ix2 j).trans (congrArg (fun a : Fin 1 => (ix2 a (j 1) : S1x2048.Idx)) (Subsingleton.elim _ _))

/-! ## The arrays after the first region -/

/-- The input's gradient. -/
theorem arr9 (c : Dev nD) : (dat (ent0 m) c).arrAt 9 cfg0.N = (fun i => Spec.dx (args m c) (i 0) (i 1) : Vec Ideal S1024x2048 .bf16) := by
  refine (dat (ent0 m) c).arrAt_eq_of_covers 9 _ (by decide +kernel) fun t hf y => ?_
  blk_simp
  rw [after9]
  obtain ⟨r, d, rfl⟩ : ∃ (r : Fin 256) (d : Fin 2048), y = ix2 r d := ⟨y 0, y 1, eq_ix2 y⟩
  refine (dxB_ent m c t r d).trans ?_
  refine congrArg₂ (Spec.dx (args m c)) (Fin.ext (Eq.symm ?_)) (Fin.ext (Eq.symm ?_))
  · blk_simp [idx9 t, row]
  · blk_simp [idx9 t, row]

/-- The layer norm's output. -/
theorem arr10 (c : Dev nD) : (dat (ent0 m) c).arrAt 10 cfg0.N = (fun i => Spec.xh (args m c) (i 0) (i 1) : Vec Ideal S1024x2048 .bf16) := by
  refine (dat (ent0 m) c).arrAt_eq_of_covers 10 _ (by decide +kernel) fun t hf y => ?_
  blk_simp
  rw [after10]
  obtain ⟨r, d, rfl⟩ : ∃ (r : Fin 256) (d : Fin 2048), y = ix2 r d := ⟨y 0, y 1, eq_ix2 y⟩
  refine (xhB_ent m c t r d).trans ?_
  refine congrArg₂ (Spec.xh (args m c)) (Fin.ext (Eq.symm ?_)) (Fin.ext (Eq.symm ?_))
  · blk_simp [idx10 t, row]
  · blk_simp [idx10 t, row]

/-- The gradient of the gains. -/
theorem arr11 (c : Dev nD) : (dat (ent0 m) c).arrAt 11 cfg0.N = (fun i => Spec.dg (args m c) (i 1) : Vec Ideal S1x2048 .f32) := by
  refine (dat (ent0 m) c).arrAt_eq_of_after_last 11 t0_3 (by decide +kernel) _ fun j => ?_
  blk_simp
  rw [after11]
  obtain ⟨d, rfl⟩ : ∃ (d : Fin 2048), j = ix2 0 d := ⟨j 1, one_row j⟩
  refine (dgAt_ent m c d 3 _).trans ?_
  exact Fin.sum_mul_add_fin 4 256 (fun s => Spec.dxh (args m c) s d * Spec.nx (args m c) s d)

/-- The gradient of the offsets. -/
theorem arr12 (c : Dev nD) : (dat (ent0 m) c).arrAt 12 cfg0.N = (fun i => Spec.db (args m c) (i 1) : Vec Ideal S1x2048 .f32) := by
  refine (dat (ent0 m) c).arrAt_eq_of_after_last 12 t0_3 (by decide +kernel) _ fun j => ?_
  blk_simp
  rw [after12]
  obtain ⟨d, rfl⟩ : ∃ (d : Fin 2048), j = ix2 0 d := ⟨j 1, one_row j⟩
  refine (dbAt_ent m c d 3 _).trans ?_
  exact Fin.sum_mul_add_fin 4 256 (fun s => Spec.dxh (args m c) s d)

end Cert.KernelIdeal.Dx

end
-- ==== Proof.Ideal.DwValue.lean ====
/-
What the second kernel's blocks hold, entry by entry, over the extended reals.
-/
module

public import proofs.«01_k».proof.Proof.Ideal.DwData
public import proofs.«01_k».proof.Proof.Ideal.Spec
public import Idealize.ShloMosaic.Lib.Pointwise
public import Idealize.ShloMosaic.Lib.Pipeline.ValueKit

@[expose] public section

set_option maxRecDepth 16384

noncomputable section

namespace Cert.KernelIdeal.Dw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A block of the weight gradient: each entry is a column of the layer norm's output against a column of the upstream gradient. -/
theorem dwB_apply (x0 : Vec Ideal S1024x2048 .bf16) (x1 : Vec Ideal S1024x512 .bf16) (d : Fin 2048) (k : Fin 512) :
    dwB (F := Ideal) x0 x1 (ix2 d k) = ∑ s : Fin 1024, x0 (ix2 s d) * x1 (ix2 s k) := by
  pointwise [dwB, k1_pay1]

end Cert.KernelIdeal.Dw

end
-- ==== Proof.Ideal.DwArrays.lean ====
/-
The second kernel's array after its region, entry by entry, over the extended reals.
-/
module

public import proofs.«01_k».proof.Proof.Ideal.DxArrays
public import proofs.«01_k».proof.Proof.Ideal.DwValue

@[expose] public section

set_option maxRecDepth 16384

noncomputable section

namespace Cert.KernelIdeal.Dw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Whole (ent0 ent1 args)

/-- Which block of the layer norm's output a point is at. -/
theorem idx0 : ∀ t : Fin cfg1.N, win1_0.index t = ![0, 0] := (by decide +kernel : ∀ t : Fin grid1.N, win1_0.index t = ![0, 0])
/-- Which block of the upstream gradient a point is at. -/
theorem idx1 : ∀ t : Fin cfg1.N, win1_1.index t = ![0, t.val] := (by decide +kernel : ∀ t : Fin grid1.N, win1_1.index t = ![0, t.val])
/-- Which block of dW a point is at. -/
theorem idx2 : ∀ t : Fin cfg1.N, win1_2.index t = ![0, t.val] := (by decide +kernel : ∀ t : Fin grid1.N, win1_2.index t = ![0, t.val])

/-- The array column that column `k` of grid point `t`'s block is. -/
def col (t : Fin cfg1.N) (k : Fin 512) : Fin 4096 :=
  ⟨t.val * 512 + k.val, by have := lt_of_lt_of_eq t.isLt (show cfg1.N = 8 from N_1); have := k.isLt; omega⟩

section
variable (V : (c : Dev nD) → (b : Ref sig .tc) → Buf (Elt Ideal) ((c : Thread nD τ).loc b))

/-- The layer norm's output is read whole at every point. -/
theorem iblk0_apply (c : Dev nD) (t : Fin cfg1.N) (s : Fin 1024) (d : Fin 2048) :
    (iblk V c 0 t : Vec Ideal S1024x2048 .bf16) (ix2 s d) = (V c main_v8_1 : Vec Ideal S1024x2048 .bf16) (ix2 s d) := by
  blk_ext [iblk, idx0 t]

/-- The upstream gradient is read column block by column block. -/
theorem iblk1_apply (c : Dev nD) (t : Fin cfg1.N) (s : Fin 1024) (k : Fin 512) :
    (iblk V c 1 t : Vec Ideal S1024x512 .bf16) (ix2 s k) = (V c main_v0 : Vec Ideal S1024x4096 .bf16) (ix2 s (col t k)) := by
  blk_ext [iblk, col, idx1 t]
end

variable (m : (ℓ : Loc nD τ sig) → Buf (Elt Ideal) ℓ)

/-- The second region finds the layer norm's output as the first left it. -/
theorem ent_xh (c : Dev nD) (s : Fin 1024) (d : Fin 2048) : (ent1 m c main_v8_1 : Vec Ideal S1024x2048 .bf16) (ix2 s d) = Spec.xh (args m c) s d :=
  congrFun ((Whole.mid_1 m c).trans (Dx.arr10 m c)) (ix2 s d)

/-- The second region finds the upstream gradient as the first found it. -/
theorem ent_q (c : Dev nD) (s : Fin 1024) (k : Fin 4096) : (ent1 m c main_v0 : Vec Ideal S1024x4096 .bf16) (ix2 s k) = (args m c).q s k :=
  (congrFun (Whole.mid_of m c main_v0 (by decide)) (ix2 s k)).trans (Whole.ent_main_v0 m c s k)

/-- What a point leaves of the gradient of the weights. -/
theorem dwB_ent (c : Dev nD) (t : Fin cfg1.N) (d : Fin 2048) (k : Fin 512) :
    dwB (F := Ideal) (iblk (ent1 m) c 0 t) (iblk (ent1 m) c 1 t) (ix2 d k) = Spec.dw (args m c) d (col t k) := by
  refine (dwB_apply _ _ d k).trans ?_
  unfold Spec.dw
  refine Finset.sum_congr rfl fun s _ => ?_
  exact congrArg₂ (fun a b : EReal => a * b) ((iblk0_apply (ent1 m) c t s d).trans (ent_xh m c s d))
    ((iblk1_apply (ent1 m) c t s k).trans (ent_q m c s _))

/-- The gradient of the weights after the second region. -/
theorem arr2 (c : Dev nD) : (dat (ent1 m) c).arrAt 2 cfg1.N = (fun i => Spec.dw (args m c) (i 0) (i 1) : Vec Ideal S2048x4096 .f32) := by
  refine (dat (ent1 m) c).arrAt_eq_of_covers 2 _ (by decide +kernel) fun t hf y => ?_
  blk_simp
  rw [after2]
  obtain ⟨d, k, rfl⟩ : ∃ (d : Fin 2048) (k : Fin 512), y = ix2 d k := ⟨y 0, y 1, eq_ix2 y⟩
  refine (dwB_ent m c t d k).trans ?_
  refine congrArg₂ (Spec.dw (args m c)) (Fin.ext (Eq.symm ?_)) (Fin.ext (Eq.symm ?_))
  · blk_simp [idx2 t, col]
  · blk_simp [idx2 t, col]

end Cert.KernelIdeal.Dw

end
-- ==== Proof.Ideal.Results.lean ====
/-
The program's four results, entry by entry, over the extended reals.
-/
module

public import proofs.«01_k».proof.Proof.Ideal.DwArrays

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The first result is the gradient of the input. -/
theorem res_dx (c : Dev nD) : V4 m (outs m) c main_v10 = (fun i => Spec.dx (args m c) (i 1) (i 2) : Vec Ideal S1x1024x2048 .bf16) := by
  have e : last m c main_v8_0 = _ := (last_of m c main_v8_0 (by decide)).trans ((mid_0 m c).trans (Dx.arr9 m c))
  unfold V4
  rw [V3_eq]
  entry_read
  rw [e]
  funext i
  idx_vars i
  pointwise

/-- The second result is the gradient of the weights. -/
theorem res_dw (c : Dev nD) : V4 m (outs m) c main_v9 = (fun i => Spec.dw (args m c) (i 0) (i 1) : Vec Ideal S2048x4096 .f32) := by
  rw [V4_of m (outs m) c main_v9 (by decide), V3_eq]
  exact (last_9 m c).trans (Dw.arr2 m c)

/-- The third result is the gradient of the gains. -/
theorem res_dg (c : Dev nD) : V4 m (outs m) c main_v11 = (fun i => Spec.dg (args m c) (i 0) : Vec Ideal S2048 .f32) := by
  have e : last m c main_v8_2 = _ := (last_of m c main_v8_2 (by decide)).trans ((mid_2 m c).trans (Dx.arr11 m c))
  unfold V4
  rw [V3_eq]
  entry_read
  rw [e]
  funext i
  idx_vars i
  pointwise

/-- The fourth result is the gradient of the offsets. -/
theorem res_db (c : Dev nD) : V4 m (outs m) c main_v12 = (fun i => Spec.db (args m c) (i 0) : Vec Ideal S2048 .f32) := by
  have e : last m c main_v8_3 = _ := (last_of m c main_v8_3 (by decide)).trans ((mid_3 m c).trans (Dx.arr12 m c))
  unfold V4
  rw [V3_eq]
  entry_read
  rw [e]
  funext i
  idx_vars i
  pointwise

/-- From any memory with zero counters every execution of the program ends with the four gradients of its arguments in its
    results, and the arguments unchanged. -/
theorem run_values (ρ : Dev nD → PrngReg) :
    θ_run defs (onTc (τ := τ) (main (F := Ideal))) ⟨m, fun _ => 0, ρ⟩ fun r => ∀ c : Dev nD,
      r.2.mem ((c : Thread nD τ).loc main_v10) = (fun i => Spec.dx (args m c) (i 1) (i 2) : Vec Ideal S1x1024x2048 .bf16)
      ∧ r.2.mem ((c : Thread nD τ).loc main_v9) = (fun i => Spec.dw (args m c) (i 0) (i 1) : Vec Ideal S2048x4096 .f32)
      ∧ r.2.mem ((c : Thread nD τ).loc main_v11) = (fun i => Spec.dg (args m c) (i 0) : Vec Ideal S2048 .f32)
      ∧ r.2.mem ((c : Thread nD τ).loc main_v12) = (fun i => Spec.db (args m c) (i 0) : Vec Ideal S2048 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h.1 c (Proc.devRef .tc main_v10) (at_end main_v10 (by decide))).trans (res_dx m c),
    (h.1 c (Proc.devRef .tc main_v9) (at_end main_v9 (by decide))).trans (res_dw m c),
    (h.1 c (Proc.devRef .tc main_v11) (at_end main_v11 (by decide))).trans (res_dg m c),
    (h.1 c (Proc.devRef .tc main_v12) (at_end main_v12 (by decide))).trans (res_db m c),
    (h.1 c (Proc.devRef .tc main_arg0) (at_end main_arg0 (by decide))).trans (V4_main_arg0 m (outs m) c),
    (h.1 c (Proc.devRef .tc main_arg1) (at_end main_arg1 (by decide))).trans (V4_main_arg1 m (outs m) c),
    (h.1 c (Proc.devRef .tc main_arg2) (at_end main_arg2 (by decide))).trans (V4_main_arg2 m (outs m) c),
    (h.1 c (Proc.devRef .tc main_arg3) (at_end main_arg3 (by decide))).trans (V4_main_arg3 m (outs m) c),
    (h.1 c (Proc.devRef .tc main_arg4) (at_end main_arg4 (by decide))).trans (V4_main_arg4 m (outs m) c),
    (h.1 c (Proc.devRef .tc main_arg5) (at_end main_arg5 (by decide))).trans (V4_main_arg5 m (outs m) c),
    (h.1 c (Proc.devRef .tc main_arg6) (at_end main_arg6 (by decide))).trans (V4_main_arg6 m (outs m) c),
    (h.1 c (Proc.devRef .tc main_arg7) (at_end main_arg7 (by decide))).trans (V4_main_arg7 m (outs m) c),
    (h.1 c (Proc.devRef .tc main_arg8) (at_end main_arg8 (by decide))).trans (V4_main_arg8 m (outs m) c)⟩) (run m ρ)

end Cert.KernelIdeal.Whole

end
-- ==== Proof.Reference.Terms.lean ====
/-
The reference's four results, entry by entry, over the extended reals: each is the gradient of the same name in
`Cert.Spec`, of the reference's own arguments.
-/
module

public import proofs.«01_k».proof.Proof.Gen.ReferenceIdeal.Read
public import proofs.«01_k».proof.Proof.Ideal.Spec
public import Idealize.ShloMosaic.Lib.Pointwise

@[expose] public section

set_option maxRecDepth 16384

noncomputable section

namespace Cert.ReferenceIdeal.Terms

open Cert.ReferenceIdeal Cert.ReferenceIdeal.Gen Cert.ReferenceIdeal.Read
open Idealize.ShloMosaic Idealize.ShloMosaic.TcCoe

/-- The reference's arguments as functions of their coordinates; `r0` and `r1` are the two arrays of codes, widened. -/
def args (x1 x2 x3 : Vec Ideal S1x1024 .f32) (x4 x5 : Vec Ideal S2048 .f32) (x7 : Vec Ideal S4096 .f32)
    (x8 : Vec Ideal S1x1024x4096 .bf16) (r0 : Vec Ideal S1x1024x2048 .f32) (r1 : Vec Ideal S2048x4096 .bf16) : Spec.Args where
  x s d := r0 (ix3 0 s d)
  xs s := x1 (ix2 0 s)
  rs s := x2 (ix2 0 s)
  mu s := x3 (ix2 0 s)
  ga d := x4 (ix1 d)
  be d := x5 (ix1 d)
  w d k := r1 (ix2 d k)
  ws k := x7 (ix1 k)
  q s k := x8 (ix3 0 s k)

variable (x1 x2 x3 : Vec Ideal S1x1024 .f32) (x4 x5 : Vec Ideal S2048 .f32) (x7 : Vec Ideal S4096 .f32)
    (x8 : Vec Ideal S1x1024x4096 .bf16) (r0 : Vec Ideal S1x1024x2048 .f32) (r1 : Vec Ideal S2048x4096 .bf16)

/-- The normalized input. -/
theorem nx_apply (s : Fin 1024) (d : Fin 2048) :
    val_main_v9 (F := Ideal) x1 x2 x3 r0 (ix3 0 s d) = Spec.nx (args x1 x2 x3 x4 x5 x7 x8 r0 r1) s d := by
  pointwise [val_main_v9, val_main_v8, val_main_v7, val_main_v6, val_main_v5, val_main_v4, val_main_v3, val_main_v2, val_main_v1,
    Spec.nx, Spec.scaled, args]

/-- The layer norm's output. -/
theorem xh_apply (s : Fin 1024) (d : Fin 2048) :
    val_main_v16 (F := Ideal) x1 x2 x3 x4 x5 r0 (ix3 0 s d) = Spec.xh (args x1 x2 x3 x4 x5 x7 x8 r0 r1) s d := by
  unfold Spec.xh
  rw [← nx_apply]
  generalize hn : val_main_v9 (F := Ideal) x1 x2 x3 r0 = n
  pointwise [val_main_v16, val_main_v15, val_main_v14, val_main_v13, val_main_v12, val_main_v11, val_main_v10, hn, args]

/-- The gradient of the layer norm's output. -/
theorem dxh_apply (s : Fin 1024) (d : Fin 2048) :
    val_main_v22 (F := Ideal) x7 x8 r1 (ix3 0 s d) = Spec.dxh (args x1 x2 x3 x4 x5 x7 x8 r0 r1) s d := by
  pointwise [val_main_v22, val_main_v21, val_main_v20, val_main_v19, val_main_v18, Spec.dxh, Spec.back, Spec.wt, args]

/-- The gradient of the weights. -/
theorem dw_apply (d : Fin 2048) (k : Fin 4096) :
    val_main_v17 (F := Ideal) x1 x2 x3 x4 x5 x8 r0 (ix2 d k) = Spec.dw (args x1 x2 x3 x4 x5 x7 x8 r0 r1) d k := by
  unfold Spec.dw
  simp only [← xh_apply]
  generalize hn : val_main_v16 (F := Ideal) x1 x2 x3 x4 x5 r0 = n
  pointwise [val_main_v17, hn, args]
  exact Fin.sum_univ_one _

/-- The source indices that a sum over the first two axes sends to `d` are the rows at column `d`. -/
theorem rows_fiber (h : S1x1024x2048.ReducesTo [0, 1] S2048) (d : Fin 2048) (i : S1x1024x2048.Idx) :
    h.drop i = ix1 d ↔ ∃ s : Fin 1024, (ix3 0 s d : S1x1024x2048.Idx) = i := by
  constructor
  · intro e
    refine ⟨i 1, ?_⟩
    funext a; apply Fin.ext
    match a with
    | ⟨0, _⟩ => have := (i 0).isLt; exact (Nat.lt_one_iff.mp this).symm
    | ⟨1, _⟩ => rfl
    | ⟨2, _⟩ => exact (congrArg Fin.val (congrFun e 0)).symm
  · rintro ⟨s, rfl⟩
    funext b
    apply Fin.ext
    match b with
    | ⟨0, _⟩ => rfl

/-- A sum over the first two axes, from zero, at column `d`: the sum of the rows. -/
theorem rows_sum (v : Vec Ideal S1x1024x2048 .f32) (z : Vec Ideal S_ .f32) (hz : ∀ i, z i = (0 : EReal)) (d : Fin 2048) :
    Host.reduceAdd (F := Ideal) (φ := .f32) v z reducesTo_S1x1024x2048_S2048_d0_1 h_S_ (ix1 d) = ∑ s : Fin 1024, (v (ix3 0 s d) : EReal) := by
  refine (show _ = z (Shape.Idx.first h_S_) + ∑ i ∈ Finset.univ.filter (fun i => reducesTo_S1x1024x2048_S2048_d0_1.drop i = ix1 d), v i from rfl).trans ?_
  rw [hz, zero_add]
  exact Finset.sum_filter_eq_sum_of_fiber _ (fun s : Fin 1024 => (ix3 0 s d : S1x1024x2048.Idx)) (fun _ _ e => congrFun e 1)
    (rows_fiber reducesTo_S1x1024x2048_S2048_d0_1 d) v

/-- The gradient of the gains. -/
theorem dg_apply (d : Fin 2048) :
    val_main_v24 (F := Ideal) x1 x2 x3 x7 x8 r0 r1 (ix1 d) = Spec.dg (args x1 x2 x3 x4 x5 x7 x8 r0 r1) d := by
  unfold val_main_v24
  rw [rows_sum _ _ (fun i => by pointwise [val_main_cst]) d]
  unfold Spec.dg
  refine Finset.sum_congr rfl fun s _ => ?_
  rw [← dxh_apply, ← nx_apply]
  rfl

/-- The gradient of the offsets. -/
theorem db_apply (d : Fin 2048) :
    val_main_v25 (F := Ideal) x7 x8 r1 (ix1 d) = Spec.db (args x1 x2 x3 x4 x5 x7 x8 r0 r1) d := by
  unfold val_main_v25
  rw [rows_sum _ _ (fun i => by pointwise [val_main_cst_0]) d]
  unfold Spec.db
  exact Finset.sum_congr rfl fun s _ => dxh_apply x1 x2 x3 x4 x5 x7 x8 r0 r1 s d

/-- The gradient of the input. -/
theorem dx_apply (s : Fin 1024) (d : Fin 2048) :
    val_main_v46 (F := Ideal) x1 x2 x3 x4 x7 x8 r0 r1 (ix3 0 s d) = Spec.dx (args x1 x2 x3 x4 x5 x7 x8 r0 r1) s d := by
  have hh : Spec.dxh (args x1 x2 x3 x4 x5 x7 x8 r0 r1) s = fun e => val_main_v22 (F := Ideal) x7 x8 r1 (ix3 0 s e) :=
    funext fun e => (dxh_apply x1 x2 x3 x4 x5 x7 x8 r0 r1 s e).symm
  have hn : Spec.nx (args x1 x2 x3 x4 x5 x7 x8 r0 r1) s = fun e => val_main_v9 (F := Ideal) x1 x2 x3 r0 (ix3 0 s e) :=
    funext fun e => (nx_apply x1 x2 x3 x4 x5 x7 x8 r0 r1 s e).symm
  unfold Spec.dx
  rw [hh, hn]
  unfold val_main_v46 val_main_v45 val_main_v43 val_main_v42 val_main_v41 val_main_v40 val_main_v38 val_main_v37 val_main_v36 val_main_v35
    val_main_v34 val_main_v33 val_main_v31 val_main_v30 val_main_v28
  generalize val_main_v22 (F := Ideal) x7 x8 r1 = h
  generalize val_main_v9 (F := Ideal) x1 x2 x3 r0 = n
  pointwise [val_main_v44, val_main_v39, val_main_v32, val_main_v29, val_main_v27, val_main_v26, val_main_cst_1, val_main_cst_2, val_main_cst_3,
    val_main_cst_4, Spec.dxRow, Spec.width, args]

end Cert.ReferenceIdeal.Terms

end
-- ==== Proof.Reference.Results.lean ====
/-
The reference's run over the extended reals: its four results are the gradients in `Cert.Spec`, of its arguments.
-/
module

public import proofs.«01_k».proof.Proof.Reference.Terms
public import proofs.«01_k».proof.Proof.Gen.ReferenceIdeal.Run
public import Idealize.ShloMosaic.Lib.Pipeline.ValueKit

@[expose] public section

set_option maxRecDepth 16384

noncomputable section

namespace Cert.ReferenceIdeal.Results

open Cert.ReferenceIdeal Cert.ReferenceIdeal.Gen
open Idealize.ShloMosaic Idealize.ShloMosaic.TcCoe Idealize.ShloMosaic.Tactic Idealize.SL.Sem

variable (m : (ℓ : Loc nD τ sig) → Buf (Elt Ideal) ℓ)

/-- Which block of the codes a point is at. -/
theorem idx0 : ∀ t : Fin cfg0.N, win0_0.index t = ![0, 0, 0] := (by decide +kernel : ∀ t : Fin grid0.N, win0_0.index t = ![0, 0, 0])
/-- Which block of the weight codes a point is at. -/
theorem idx1 : ∀ t : Fin cfg0.N, win0_1.index t = ![0, 0] := (by decide +kernel : ∀ t : Fin grid0.N, win0_1.index t = ![0, 0])
/-- Which block of the widened codes a point is at. -/
theorem idx2 : ∀ t : Fin cfg0.N, win0_2.index t = ![0, 0, 0] := (by decide +kernel : ∀ t : Fin grid0.N, win0_2.index t = ![0, 0, 0])
/-- Which block of the widened weight codes a point is at. -/
theorem idx3 : ∀ t : Fin cfg0.N, win0_3.index t = ![0, 0] := (by decide +kernel : ∀ t : Fin grid0.N, win0_3.index t = ![0, 0])

/-- The widened codes are the codes. -/
theorem codes_eq (c : Dev nD) : Value.reg_main_v0_0 m c = (m ((c : Thread nD τ).loc main_arg0) : Vec Ideal S1x1024x2048 .f32) := by
  refine (Gen.dats m 0 c).arrAt_eq_of_covers 2 _ (by decide +kernel) fun t hf y => ?_
  blk_simp
  rw [after0_2]
  frame_out
  refine (show _ = iblk m c 0 t y from rfl).trans ?_
  unfold iblk
  rw [show V m c (Pipeline.arrRef spec0 0) = m ((c : Thread nD τ).loc main_arg0) from V_main_arg0 m c]
  blk_ext [idx0 t, idx2 t]

/-- The widened weight codes are the weight codes. -/
theorem weights_eq (c : Dev nD) : Value.reg_main_v0_1 m c = (m ((c : Thread nD τ).loc main_arg6) : Vec Ideal S2048x4096 .bf16) := by
  refine (Gen.dats m 0 c).arrAt_eq_of_covers 3 _ (by decide +kernel) fun t hf y => ?_
  blk_simp
  rw [after0_3]
  frame_out
  refine (show _ = iblk m c 1 t y from rfl).trans ?_
  unfold iblk
  rw [show V m c (Pipeline.arrRef spec0 1) = m ((c : Thread nD τ).loc main_arg6) from V_main_arg6 m c]
  blk_ext [idx1 t, idx3 t]

/-- The reference's arguments on core `c`, as functions of their coordinates. -/
def args (c : Dev nD) : Spec.Args where
  x s d := (m ((c : Thread nD τ).loc main_arg0) : Vec Ideal S1x1024x2048 .fp8e4m3) (ix3 0 s d)
  xs s := (m ((c : Thread nD τ).loc main_arg1) : Vec Ideal S1x1024 .f32) (ix2 0 s)
  rs s := (m ((c : Thread nD τ).loc main_arg2) : Vec Ideal S1x1024 .f32) (ix2 0 s)
  mu s := (m ((c : Thread nD τ).loc main_arg3) : Vec Ideal S1x1024 .f32) (ix2 0 s)
  ga d := (m ((c : Thread nD τ).loc main_arg4) : Vec Ideal S2048 .f32) (ix1 d)
  be d := (m ((c : Thread nD τ).loc main_arg5) : Vec Ideal S2048 .f32) (ix1 d)
  w d k := (m ((c : Thread nD τ).loc main_arg6) : Vec Ideal S2048x4096 .fp8e4m3) (ix2 d k)
  ws k := (m ((c : Thread nD τ).loc main_arg7) : Vec Ideal S4096 .f32) (ix1 k)
  q s k := (m ((c : Thread nD τ).loc main_arg8) : Vec Ideal S1x1024x4096 .bf16) (ix3 0 s k)

/-- The operations' own arguments are these, the two widened arrays being the codes. -/
theorem args_eq (c : Dev nD) :
    Terms.args (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg7))
      (m ((c : Thread nD τ).loc main_arg8)) (Value.reg_main_v0_0 m c) (Value.reg_main_v0_1 m c) = args m c := by
  rw [codes_eq, weights_eq]
  rfl

/-- From any memory with zero counters every execution of the reference ends with the four gradients of its arguments in its
    results, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v46) = (fun i => Spec.dx (args m c) (i 1) (i 2) : Vec Ideal S1x1024x2048 .bf16)
      ∧ r.2.mem ((c : Thread nD τ).loc main_v17) = (fun i => Spec.dw (args m c) (i 0) (i 1) : Vec Ideal S2048x4096 .f32)
      ∧ r.2.mem ((c : Thread nD τ).loc main_v24) = (fun i => Spec.dg (args m c) (i 0) : Vec Ideal S2048 .f32)
      ∧ r.2.mem ((c : Thread nD τ).loc main_v25) = (fun i => Spec.db (args m c) (i 0) : Vec Ideal S2048 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (Value.run m ρ)
  obtain ⟨h0, h1, h2, h3, hr⟩ := h c
  refine ⟨h0.trans ?_, h1.trans ?_, h2.trans ?_, h3.trans ?_, hr⟩
  · funext i
    obtain ⟨s, d, rfl⟩ : ∃ (s : Fin 1024) (d : Fin 2048), i = ix3 0 s d :=
      ⟨i 1, i 2, (eq_ix3 i).trans (congrArg (fun a : Fin 1 => (ix3 a (i 1) (i 2) : S1x1024x2048.Idx)) (Subsingleton.elim _ _))⟩
    exact (Terms.dx_apply _ _ _ _ (m ((c : Thread nD τ).loc main_arg5)) _ _ _ _ s d).trans (by rw [args_eq]; rfl)
  · funext i
    obtain ⟨d, k, rfl⟩ : ∃ (d : Fin 2048) (k : Fin 4096), i = ix2 d k := ⟨i 0, i 1, eq_ix2 i⟩
    exact (Terms.dw_apply _ _ _ _ _ (m ((c : Thread nD τ).loc main_arg7)) _ _ (Value.reg_main_v0_1 m c) d k).trans (by rw [args_eq]; rfl)
  · funext i
    obtain ⟨d, rfl⟩ : ∃ d : Fin 2048, i = ix1 d := ⟨i 0, eq_ix1 i⟩
    exact (Terms.dg_apply _ _ _ (m ((c : Thread nD τ).loc main_arg4)) (m ((c : Thread nD τ).loc main_arg5)) _ _ _ _ d).trans (by rw [args_eq]; rfl)
  · funext i
    obtain ⟨d, rfl⟩ : ∃ d : Fin 2048, i = ix1 d := ⟨i 0, eq_ix1 i⟩
    exact (Terms.db_apply (m ((c : Thread nD τ).loc main_arg1)) (m ((c : Thread nD τ).loc main_arg2)) (m ((c : Thread nD τ).loc main_arg3))
      (m ((c : Thread nD τ).loc main_arg4)) (m ((c : Thread nD τ).loc main_arg5)) _ _ (Value.reg_main_v0_0 m c) _ d).trans (by rw [args_eq]; rfl)

end Cert.ReferenceIdeal.Results

end
-- ==== Proof.lean ====
/-
The proof of `Cert.Claim`. The kernel, its idealization and the reference each run to the end with their arguments unchanged
and every counter at zero; the idealization rewrites nothing; and over the extended reals the kernel and the reference end
with the same four results, because each result is one gradient in `Cert.Spec` of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Ideal.Run
public import proofs.«01_k».proof.Proof.Rounded.Run
public import proofs.«01_k».proof.Proof.Ideal.Results
public import proofs.«01_k».proof.Proof.Reference.Results
public import Idealize.ShloMosaic.Adequacy
public import Idealize.ShloMosaic.Init

@[expose] public section

noncomputable section

namespace Cert.Proof

open Idealize.ShloMosaic Idealize.SL.Sem Cert.Kernel

/-- From memories that agree on the arguments, the two programs are run on the same numbers. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Results.args m' c = Cert.KernelIdeal.Whole.args m c := by
  obtain ⟨h0, h1, h2, h3, h4, h5, h6, h7, h8⟩ := h
  unfold Cert.ReferenceIdeal.Results.args
  rw [h0, h1, h2, h3, h4, h5, h6, h7, h8]
  rfl

/-- From memories that agree on the arguments, the kernel and the reference end with the same four results. -/
theorem algebraic : Cert.algebraic_KernelIdeal_ReferenceIdeal (hKernelIdeal := Cert.KernelIdeal.Gen.facts)
    (hReferenceIdeal := Cert.ReferenceIdeal.Gen.facts) := by
  intro m ρ m' ρ' _ h
  refine ⟨_, _, _, _, Cert.KernelIdeal.Whole.run_values m ρ, ?_⟩
  refine (θ_run _ _ _).mono (fun r hr c => ?_) (Cert.ReferenceIdeal.Results.run m' ρ')
  have hc := hr c
  rw [args_agree m m' c (h c)] at hc
  exact hc

/-- Everything the certificate claims. -/
theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ,
  fun m ρ _ => Cert.ReferenceIdeal.Gen.frame m ρ, trivial, algebraic⟩

end Cert.Proof

end
